-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S8x3072x8192 : Shape := ⟨3, ![8, 3072, 8192]⟩
abbrev S11264x8192 : Shape := ⟨2, ![11264, 8192]⟩
abbrev S11264 : Shape := ⟨1, ![11264]⟩
abbrev S_ : Shape := ⟨0, ![]⟩

class Facts : Prop where
  bcast_S_S8x3072x8192 : S_.BroadcastsInDim S8x3072x8192 (![] : Fin 0 → Fin S8x3072x8192.rank)
  reducesTo_S8x3072x8192_S_d0_1_2 : S8x3072x8192.ReducesTo [0, 1, 2] S_
  h_S_ : 0 < S_.numel

variable [Facts]

def fn {F : FTy → Type} [FloatOps F] (main_arg0 : FVec F S8x3072x8192 .bf16) (main_arg1 : FVec F S11264x8192 .fp8e4m3) (main_arg2 : FVec F S11264 .f32) : IVec S_ 1 :=
  let main_v0 : FVec F S8x3072x8192 .bf16 := Host.absf main_arg0
  let main_cst : FVec F S_ .bf16 := constant S_ .bf16 0x7F7F#16
  let main_v1 : FVec F S8x3072x8192 .bf16 := broadcastInDim S8x3072x8192 ![] bcast_S_S8x3072x8192 main_cst
  let main_v2 : IVec S8x3072x8192 1 := cmpf .ole main_v0 main_v1
  let main_v3 : FVec F S8x3072x8192 .bf16 := Host.absf main_arg0
  let main_cst_0 : FVec F S_ .bf16 := constant S_ .bf16 0x7F80#16
  let main_v4 : FVec F S8x3072x8192 .bf16 := broadcastInDim S8x3072x8192 ![] bcast_S_S8x3072x8192 main_cst_0
  let main_v5 : IVec S8x3072x8192 1 := cmpf .oeq main_v3 main_v4
  let main_v6 : IVec S8x3072x8192 1 := ori main_v2 main_v5
  let main_c : IVec S_ 1 := constantI S_ 1 1#1
  let main_v7 : IVec S_ 1 := (fun x v => Host.reduce IntOp.andi x v reducesTo_S8x3072x8192_S_d0_1_2 h_S_) main_v6 main_c
  main_v7
-- ==== Kernel.lean ====
abbrev S8x3072x8192 : Shape := ⟨3, ![8, 3072, 8192]⟩
abbrev S11264x8192 : Shape := ⟨2, ![11264, 8192]⟩
abbrev S11264 : Shape := ⟨1, ![11264]⟩
abbrev S24576x8192 : Shape := ⟨2, ![24576, 8192]⟩
abbrev S1x11264 : Shape := ⟨2, ![1, 11264]⟩
abbrev S24576x11264 : Shape := ⟨2, ![24576, 11264]⟩
abbrev S24576x128 : Shape := ⟨2, ![24576, 128]⟩
abbrev S512x8192 : Shape := ⟨2, ![512, 8192]⟩
abbrev S1x512 : Shape := ⟨2, ![1, 512]⟩
abbrev S512x512 : Shape := ⟨2, ![512, 512]⟩
abbrev S512x128 : Shape := ⟨2, ![512, 128]⟩
abbrev S32x8192 : Shape := ⟨2, ![32, 8192]⟩
abbrev S32 : Shape := ⟨1, ![32]⟩
abbrev S32x1 : Shape := ⟨2, ![32, 1]⟩
abbrev S32x128 : Shape := ⟨2, ![32, 128]⟩
abbrev S512x1 : Shape := ⟨2, ![512, 1]⟩
abbrev S8x3072x11264 : Shape := ⟨3, ![8, 3072, 11264]⟩
abbrev S24576x1 : Shape := ⟨2, ![24576, 1]⟩
abbrev S8x3072x1 : Shape := ⟨3, ![8, 3072, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x3072x8192, .bf16⟩
  | .hbm, ⟨1, _⟩ => ⟨S11264x8192, .fp8e4m3⟩
  | .hbm, ⟨2, _⟩ => ⟨S11264, .f32⟩
  | .hbm, ⟨3, _⟩ => ⟨S24576x8192, .bf16⟩
  | .hbm, ⟨4, _⟩ => ⟨S1x11264, .f32⟩
  | .hbm, ⟨5, _⟩ => ⟨S24576x11264, .bf16⟩
  | .hbm, ⟨6, _⟩ => ⟨S24576x8192, .fp8e4m3⟩
  | .hbm, ⟨7, _⟩ => ⟨S24576x128, .f32⟩
  | .hbm, ⟨8, _⟩ => ⟨S8x3072x11264, .bf16⟩
  | .hbm, ⟨9, _⟩ => ⟨S8x3072x8192, .fp8e4m3⟩
  | .hbm, ⟨10, _⟩ => ⟨S24576x1, .f32⟩
  | .hbm, ⟨11, _⟩ => ⟨S8x3072x1, .f32⟩
  | .local _ .vmem, ⟨0, _⟩ => ⟨S512x8192, .bf16⟩
  | .local _ .vmem, ⟨1, _⟩ => ⟨S512x8192, .bf16⟩
  | .local _ .vmem, ⟨2, _⟩ => ⟨S512x8192, .fp8e4m3⟩
  | .local _ .vmem, ⟨3, _⟩ => ⟨S512x8192, .fp8e4m3⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x8192, .fp8e4m3⟩
  | .local _ .vmem, ⟨9, _⟩ => ⟨S512x8192, .fp8e4m3⟩
  | .local _ .vmem, ⟨10, _⟩ => ⟨S512x128, .f32⟩
  | .local _ .vmem, ⟨11, _⟩ => ⟨S512x128, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![48, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x3072x8192 : Shape := ⟨3, ![8, 3072, 8192]⟩
abbrev S11264x8192 : Shape := ⟨2, ![11264, 8192]⟩
abbrev S11264 : Shape := ⟨1, ![11264]⟩
abbrev S24576x8192 : Shape := ⟨2, ![24576, 8192]⟩
abbrev S1x11264 : Shape := ⟨2, ![1, 11264]⟩
abbrev S24576x11264 : Shape := ⟨2, ![24576, 11264]⟩
abbrev S24576x1 : Shape := ⟨2, ![24576, 1]⟩
abbrev S24576 : Shape := ⟨1, ![24576]⟩
abbrev S8x3072x11264 : Shape := ⟨3, ![8, 3072, 11264]⟩
abbrev S8x3072x1 : Shape := ⟨3, ![8, 3072, 1]⟩

abbrev nBuf : Space → Nat
  | .hbm => 11
  | .vmem => 6
  | .smem => 0
  | _ => 0

abbrev bufTy : (tb : Table) → Fin (tcTables nBuf tb) → BufTy
  | .hbm, ⟨0, _⟩ => ⟨S8x3072x8192, .bf16⟩
  | .hbm, ⟨1, _⟩ => ⟨S11264x8192, .fp8e4m3⟩
  | .hbm, ⟨2, _⟩ => ⟨S11264, .f32⟩
  | .hbm, ⟨3, _⟩ => ⟨S24576x8192, .bf16⟩
  | .hbm, ⟨4, _⟩ => ⟨S1x11264, .f32⟩
  | .hbm, ⟨5, _⟩ => ⟨S24576x11264, .bf16⟩
  | .hbm, ⟨6, _⟩ => ⟨S24576x8192, .fp8e4m3⟩
  | .hbm, ⟨7, _⟩ => ⟨S24576x1, .f32⟩
  | .hbm, ⟨8, _⟩ => ⟨S8x3072x11264, .bf16⟩
  | .hbm, ⟨9, _⟩ => ⟨S8x3072x8192, .fp8e4m3⟩
  | .hbm, ⟨10, _⟩ => ⟨S8x3072x1, .f32⟩
  | .local _ .vmem, ⟨0, _⟩ => ⟨S24576x8192, .bf16⟩
  | .local _ .vmem, ⟨1, _⟩ => ⟨S11264x8192, .fp8e4m3⟩
  | .local _ .vmem, ⟨2, _⟩ => ⟨S1x11264, .f32⟩
  | .local _ .vmem, ⟨3, _⟩ => ⟨S24576x11264, .bf16⟩
  | .local _ .vmem, ⟨4, _⟩ => ⟨S24576x8192, .fp8e4m3⟩
  | .local _ .vmem, ⟨5, _⟩ => ⟨S24576x1, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11264x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Points.lean ====
/- The kernel's branch condition and staging buffers, point by point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 22) — by arithmetic of the point. -/
theorem hcond0_0 : ∀ t : Fin cfg0.N, cond0_0 (grid0.coords t) ↔ t.val % 22 = 0 :=
  (fun t => by
    have ht : t.val < 1056 := Nat.lt_of_lt_of_eq t.isLt N_0
    have e0 : (grid0.coords t 0).val = t.val / 22 % 48 := Pipeline.Grid.coords_val t 0 (by decide) rfl
    have e1 : (grid0.coords t 1).val = t.val / 1 % 22 := Pipeline.Grid.coords_val t 1 (by decide) rfl
    simp only [cond0_0, k0_cond1, e0, e1]
    word_cmp
   : ∀ t : Fin grid0.N, cond0_0 (grid0.coords t) ↔ t.val % 22 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)

/-- One staging buffer of each output window, through which the stored pieces are read. -/
abbrev VO0_3 : View sig .tc .vmem S512x512 .bf16 := (Memref.whole cc0_stg3_0 : Memref sig .tc .vmem S512x512 .bf16).view
abbrev VO0_4 : View sig .tc .vmem S512x8192 .fp8e4m3 := (Memref.whole cc0_stg4_0 : Memref sig .tc .vmem S512x8192 .fp8e4m3).view
abbrev VO0_5 : View sig .tc .vmem S512x128 .f32 := (Memref.whole cc0_stg5_0 : Memref sig .tc .vmem S512x128 .f32).view

end Cert.KernelIdeal.Gen

end
-- ==== Proof.RunA.lean ====
/- The body's run at the first point of a row of the grid. -/
module

public import proofs.«01_k».proof.Proof.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body where it quantises (first column of the grid): the pieces it stores into each output, and its triple. -/
noncomputable def kernelRun0_A (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x128 .f32) (harg7 : arg7.IsWhole) (hc0 : cond0_0 i)
    (x0 : Vec F S512x8192 .bf16) (x1 : Vec F S512x8192 .fp8e4m3) (x2 : Vec F S1x512 .f32) :
    Σ' (L3 : List (View.Piece (Elt F) S512x512 .bf16)), Σ' (L4 : List (View.Piece (Elt F) S512x8192 .fp8e4m3)), { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_fp8_linear i arg2 harg2 arg3 harg3 arg4 harg4 arg5 harg5 arg6 harg6 arg7 harg7) K } := by
  refine ⟨?_, ?_, ?_, fun E K => ?run⟩
  case run =>
    simp only [cc0_fp8_linear_eq_skeleton]; unfold cc0_fp8_linear_skel
    simp only [k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.Gen

end
-- ==== Proof.RunB.lean ====
/- The body's run at the points after the first of a row of the grid. -/
module

public import proofs.«01_k».proof.Proof.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at the other points: it reads the codes and scales it finds, and stores the product. -/
noncomputable def kernelRun0_B (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x128 .f32) (harg7 : arg7.IsWhole) (hc0 : ¬cond0_0 i)
    (x0 : Vec F S512x8192 .bf16) (x1 : Vec F S512x8192 .fp8e4m3) (x2 : Vec F S1x512 .f32) (xo4 : Vec F S512x8192 .fp8e4m3) (xo5 : Vec F S512x128 .f32) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo4 ∗ owns (c : Thread nD τ) arg7 fullShare xo5) -∗ K ⟨⟩))
          ⊢ wp frame (wpE (defs₀ (F := F)) Variants.none c none) E (cc0_fp8_linear i arg2 harg2 arg3 harg3 arg4 harg4 arg5 harg5 arg6 harg6 arg7 harg7) K } := by
  refine ⟨?_, fun E K => ?run⟩
  case run =>
    simp only [cc0_fp8_linear_eq_skeleton]; unfold cc0_fp8_linear_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg2.eq_unread hf0; obtain rfl := harg3.eq_unread hf1; obtain rfl := harg4.eq_unread hf2; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; isplitr; · ipureintro; exact harg7.read_unread _
    iexact H5

end Cert.KernelIdeal.Gen

end
-- ==== Proof.Quant.lean ====
/- What the kernel's quantising blocks store, as plain functions of the block of tokens. -/
module

public import proofs.«01_k».proof.Proof.RunA
public import Idealize.ShloMosaic.Lib.WholeRead
public import Idealize.ShloMosaic.Lib.ValueIdxCore
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.ValueIdx

variable {F : FTy → Type} [FloatOps F]

/-- The float whose exponent field is `b` and whose other fields are zero. -/
def fieldFloat (b : IVec S32x128 32) : FVec F S32x128 .f32 :=
  bitcastToFloat .f32 (shli b (broadcast S32x128 23#32))

/-- One step of the binary search for the exponent field of `t`. -/
def expStep (t : FVec F S32x128 .f32) (b : IVec S32x128 32) (k : BitVec 32) : IVec S32x128 32 :=
  select (cmpf .oge t (fieldFloat (addi b (broadcast S32x128 k)))) (addi b (broadcast S32x128 k)) b

/-- The exponent field of `t`, found bit by bit. -/
def expField (t : FVec F S32x128 .f32) : IVec S32x128 32 :=
  expStep t (expStep t (expStep t (expStep t (expStep t (expStep t (expStep t (expStep t (broadcast S32x128 0#32)
    128#32) 64#32) 32#32) 16#32) 8#32) 4#32) 2#32) 1#32

/-- Every token's greatest magnitude, divided by 448, in each of 128 lanes. -/
def amax (xb : Vec F S32x8192 .bf16) : FVec F S32x128 .f32 :=
  mulf (broadcastTo S32x128 (shapeCast S32x1 (shapeCast S32x1 (multiReduction .maximumf [1] S32
    (absf (extf .f32 (shapeCast S32x8192 xb shapeCasts_S32x8192_S32x8192) bitsLt_bf16_f32)) 0xFF800000#32
    reduces_S32x8192_S32 (.inl rfl) rfl) shapeCasts_S32_S32x1) shapeCasts_S32x1_S32x1) broadcasts_S32x1_S32x128)
    (broadcast S32x128 (Scalar.ofBits .f32 0x3B124925#32))

/-- The exponent of a token's scale, from the exponent field of its reduced magnitude. -/
def scaleExp (b : IVec S32x128 32) : IVec S32x128 32 :=
  select (ori (cmpi .eq b (broadcast S32x128 0#32)) (cmpi .eq b (broadcast S32x128 255#32)))
    (broadcast S32x128 0#32) (subi b (broadcast S32x128 126#32))

/-- Two to the power `e`, by its bits. -/
def pow2 (e : IVec S32x128 32) : FVec F S32x128 .f32 := fieldFloat (addi e (broadcast S32x128 127#32))

/-- The scales of a block of 32 tokens. -/
def scaleBlk (xb : Vec F S32x8192 .bf16) : FVec F S32x128 .f32 := pow2 (scaleExp (expField (amax xb)))

/-- The codes of a block of 32 tokens. -/
def codeBlk (xb : Vec F S32x8192 .bf16) : FVec F S32x8192 .fp8e4m3 :=
  truncf .fp8e4m3 (minimumf (broadcast S32x8192 (Scalar.ofBits .f32 0x43E00000#32))
    (maximumf (broadcast S32x8192 (Scalar.ofBits .f32 0xC3E00000#32))
      (mulf (extf .f32 (shapeCast S32x8192 xb shapeCasts_S32x8192_S32x8192) bitsLt_bf16_f32)
        (broadcastTo S32x8192 (extractStridedSlice S32x1 ![0, 0]
          (pow2 (subi (broadcast S32x128 0#32) (scaleExp (expField (amax xb))))) slices_S32x128_o0_0_S32x1)
          broadcasts_S32x1_S32x8192)))) bitsLt_fp8e4m3_f32

/-- Block `r` of 32 rows of a block of 512 tokens. -/
def rowsOf (x0 : Vec F S512x8192 .bf16) (r : Fin 16) : Vec F S32x8192 .bf16 := fun z =>
  x0 (ix2 (n0 := 512) (n1 := 8192) ⟨32 * r.val + (z 0).val, by have : (z 0).val < 32 := (z 0).isLt; omega⟩ (z 1))

/-- The codes of a block of 512 tokens. -/
def codes (x0 : Vec F S512x8192 .bf16) : Vec F S512x8192 .fp8e4m3 := fun y =>
  codeBlk (rowsOf x0 ⟨(y 0).val / 32, by have : (y 0).val < 512 := (y 0).isLt; omega⟩)
    (ix2 (n0 := 32) (n1 := 8192) ⟨(y 0).val % 32, Nat.mod_lt _ (by decide)⟩ (y 1))

/-- The scales of a block of 512 tokens, in each of 128 lanes. -/
def scales (x0 : Vec F S512x8192 .bf16) : Vec F S512x128 .f32 := fun y =>
  scaleBlk (rowsOf x0 ⟨(y 0).val / 32, by have : (y 0).val < 512 := (y 0).isLt; omega⟩)
    (ix2 (n0 := 32) (n1 := 128) ⟨(y 0).val % 32, Nat.mod_lt _ (by decide)⟩ (y 1))

section Pieces

variable {sig' : RefSig} {κ : Kind} {sp : Space}

/-- A load of 32 rows at a multiple of 32 reads that block of rows. -/
theorem readAt_rows (arg2 : Memref sig .tc .vmem S512x8192 .bf16) (harg2 : arg2.IsWhole) (x0 : Vec F S512x8192 .bf16)
    (o : ℕ) (r : Fin 16) (ho : o = 32 * r.val) (inb : ∀ a, (![o, 0] : Fin 2 → ℕ) a + S32x8192.size a ≤ S512x8192.size a) :
    View.readAt (Elt F) arg2.view (Rect.unit (s := S512x8192) ![o, 0] S32x8192.size inb).toLoadRect (harg2.unread x0) = rowsOf x0 r := by
  funext z
  rw [harg2.readAt_unread]
  unfold rowsOf
  congr 1
  funext a
  apply Fin.ext
  subst ho
  match a with
  | ⟨0, _⟩ => show 32 * r.val + 1 * (z 0).val = 32 * r.val + (z 0).val; omega
  | ⟨1, _⟩ => show 0 + 1 * (z 1).val = (z 1).val; omega

theorem codes_emb (x0 : Vec F S512x8192 .bf16) (o : ℕ) (r : Fin 16) (ho : o = 32 * r.val)
    (inb : ∀ a, (![o, 0] : Fin 2 → ℕ) a + S32x8192.size a ≤ S512x8192.size a) (x : S32x8192.Idx) :
    codeBlk (rowsOf x0 r) x = codes x0 ((Rect.unit (s := S512x8192) ![o, 0] S32x8192.size inb).emb x) := by
  have hx : (x 0).val < 32 := (x 0).isLt
  have h0 : ((Rect.unit (s := S512x8192) ![o, 0] S32x8192.size inb).emb x 0).val = 32 * r.val + (x 0).val := by
    rw [Rect.emb_apply]; show o + 1 * (x 0).val = _; omega
  have h1 : ((Rect.unit (s := S512x8192) ![o, 0] S32x8192.size inb).emb x 1).val = (x 1).val := by
    rw [Rect.emb_apply]; show 0 + 1 * (x 1).val = _; omega
  unfold codes
  have e1 : (⟨((Rect.unit (s := S512x8192) ![o, 0] S32x8192.size inb).emb x 0).val / 32, by rw [h0]; omega⟩ : Fin 16) = r := by
    apply Fin.ext; show _ / 32 = _; rw [h0]; omega
  rw [e1]
  congr 1
  funext a
  apply Fin.ext
  match a with
  | ⟨0, _⟩ => show (x 0).val = ((Rect.unit (s := S512x8192) ![o, 0] S32x8192.size inb).emb x 0).val % 32; rw [h0]; omega
  | ⟨1, _⟩ => exact h1.symm

theorem scales_emb (x0 : Vec F S512x8192 .bf16) (o : ℕ) (r : Fin 16) (ho : o = 32 * r.val)
    (inb : ∀ a, (![o, 0] : Fin 2 → ℕ) a + S32x128.size a ≤ S512x128.size a) (x : S32x128.Idx) :
    scaleBlk (rowsOf x0 r) x = scales x0 ((Rect.unit (s := S512x128) ![o, 0] S32x128.size inb).emb x) := by
  have hx : (x 0).val < 32 := (x 0).isLt
  have h0 : ((Rect.unit (s := S512x128) ![o, 0] S32x128.size inb).emb x 0).val = 32 * r.val + (x 0).val := by
    rw [Rect.emb_apply]; show o + 1 * (x 0).val = _; omega
  have h1 : ((Rect.unit (s := S512x128) ![o, 0] S32x128.size inb).emb x 1).val = (x 1).val := by
    rw [Rect.emb_apply]; show 0 + 1 * (x 1).val = _; omega
  unfold scales
  have e1 : (⟨((Rect.unit (s := S512x128) ![o, 0] S32x128.size inb).emb x 0).val / 32, by rw [h0]; omega⟩ : Fin 16) = r := by
    apply Fin.ext; show _ / 32 = _; rw [h0]; omega
  rw [e1]
  congr 1
  funext a
  apply Fin.ext
  match a with
  | ⟨0, _⟩ => show (x 0).val = ((Rect.unit (s := S512x128) ![o, 0] S32x128.size inb).emb x 0).val % 32; rw [h0]; omega
  | ⟨1, _⟩ => exact h1.symm

end Pieces

variable (c : Dev nD) (arg2 : Memref sig .tc .vmem S512x8192 .bf16) (harg2 : arg2.IsWhole) (x0 : Vec F S512x8192 .bf16)

/-- The sixteen pieces stored into the codes window. -/
theorem pieces4_eq : kernelRun0_A.sl.H4_16 c arg2 harg2 x0 = [
    ⟨Rect.unit (s := S512x8192) ![480, 0] S32x8192.size inb_S512x8192_S32x8192_480_0, codeBlk (View.readAt (Elt F) arg2.view (Rect.unit (s := S512x8192) ![480, 0] S32x8192.size inb_S512x8192_S32x8192_480_0).toLoadRect (harg2.unread x0))⟩,
    ⟨Rect.unit (s := S512x8192) ![448, 0] S32x8192.size inb_S512x8192_S32x8192_448_0, codeBlk (View.readAt (Elt F) arg2.view (Rect.unit (s := S512x8192) ![448, 0] S32x8192.size inb_S512x8192_S32x8192_448_0).toLoadRect (harg2.unread x0))⟩,
    ⟨Rect.unit (s := S512x8192) ![416, 0] S32x8192.size inb_S512x8192_S32x8192_416_0, codeBlk (View.readAt (Elt F) arg2.view (Rect.unit (s := S512x8192) ![416, 0] S32x8192.size inb_S512x8192_S32x8192_416_0).toLoadRect (harg2.unread x0))⟩,
    ⟨Rect.unit (s := S512x8192) ![384, 0] S32x8192.size inb_S512x8192_S32x8192_384_0, codeBlk (View.readAt (Elt F) arg2.view (Rect.unit (s := S512x8192) ![384, 0] S32x8192.size inb_S512x8192_S32x8192_384_0).toLoadRect (harg2.unread x0))⟩,
    ⟨Rect.unit (s := S512x8192) ![352, 0] S32x8192.size inb_S512x8192_S32x8192_352_0, codeBlk (View.readAt (Elt F) arg2.view (Rect.unit (s := S512x8192) ![352, 0] S32x8192.size inb_S512x8192_S32x8192_352_0).toLoadRect (harg2.unread x0))⟩,
    ⟨Rect.unit (s := S512x8192) ![320, 0] S32x8192.size inb_S512x8192_S32x8192_320_0, codeBlk (View.readAt (Elt F) arg2.view (Rect.unit (s := S512x8192) ![320, 0] S32x8192.size inb_S512x8192_S32x8192_320_0).toLoadRect (harg2.unread x0))⟩,
    ⟨Rect.unit (s := S512x8192) ![288, 0] S32x8192.size inb_S512x8192_S32x8192_288_0, codeBlk (View.readAt (Elt F) arg2.view (Rect.unit (s := S512x8192) ![288, 0] S32x8192.size inb_S512x8192_S32x8192_288_0).toLoadRect (harg2.unread x0))⟩,
    ⟨Rect.unit (s := S512x8192) ![256, 0] S32x8192.size inb_S512x8192_S32x8192_256_0, codeBlk (View.readAt (Elt F) arg2.view (Rect.unit (s := S512x8192) ![256, 0] S32x8192.size inb_S512x8192_S32x8192_256_0).toLoadRect (harg2.unread x0))⟩,
    ⟨Rect.unit (s := S512x8192) ![224, 0] S32x8192.size inb_S512x8192_S32x8192_224_0, codeBlk (View.readAt (Elt F) arg2.view (Rect.unit (s := S512x8192) ![224, 0] S32x8192.size inb_S512x8192_S32x8192_224_0).toLoadRect (harg2.unread x0))⟩,
    ⟨Rect.unit (s := S512x8192) ![192, 0] S32x8192.size inb_S512x8192_S32x8192_192_0, codeBlk (View.readAt (Elt F) arg2.view (Rect.unit (s := S512x8192) ![192, 0] S32x8192.size inb_S512x8192_S32x8192_192_0).toLoadRect (harg2.unread x0))⟩,
    ⟨Rect.unit (s := S512x8192) ![160, 0] S32x8192.size inb_S512x8192_S32x8192_160_0, codeBlk (View.readAt (Elt F) arg2.view (Rect.unit (s := S512x8192) ![160, 0] S32x8192.size inb_S512x8192_S32x8192_160_0).toLoadRect (harg2.unread x0))⟩,
    ⟨Rect.unit (s := S512x8192) ![128, 0] S32x8192.size inb_S512x8192_S32x8192_128_0, codeBlk (View.readAt (Elt F) arg2.view (Rect.unit (s := S512x8192) ![128, 0] S32x8192.size inb_S512x8192_S32x8192_128_0).toLoadRect (harg2.unread x0))⟩,
    ⟨Rect.unit (s := S512x8192) ![96, 0] S32x8192.size inb_S512x8192_S32x8192_96_0, codeBlk (View.readAt (Elt F) arg2.view (Rect.unit (s := S512x8192) ![96, 0] S32x8192.size inb_S512x8192_S32x8192_96_0).toLoadRect (harg2.unread x0))⟩,
    ⟨Rect.unit (s := S512x8192) ![64, 0] S32x8192.size inb_S512x8192_S32x8192_64_0, codeBlk (View.readAt (Elt F) arg2.view (Rect.unit (s := S512x8192) ![64, 0] S32x8192.size inb_S512x8192_S32x8192_64_0).toLoadRect (harg2.unread x0))⟩,
    ⟨Rect.unit (s := S512x8192) ![32, 0] S32x8192.size inb_S512x8192_S32x8192_32_0, codeBlk (View.readAt (Elt F) arg2.view (Rect.unit (s := S512x8192) ![32, 0] S32x8192.size inb_S512x8192_S32x8192_32_0).toLoadRect (harg2.unread x0))⟩,
    ⟨Rect.unit (s := S512x8192) ![0, 0] S32x8192.size inb_S512x8192_S32x8192_0_0, codeBlk (View.readAt (Elt F) arg2.view (Rect.unit (s := S512x8192) ![0, 0] S32x8192.size inb_S512x8192_S32x8192_0_0).toLoadRect (harg2.unread x0))⟩] := rfl

/-- The sixteen pieces stored into the scales window. -/
theorem pieces5_eq : kernelRun0_A.sl.H5_16 c arg2 harg2 x0 = [
    ⟨Rect.unit (s := S512x128) ![480, 0] S32x128.size inb_S512x128_S32x128_480_0, scaleBlk (View.readAt (Elt F) arg2.view (Rect.unit (s := S512x8192) ![480, 0] S32x8192.size inb_S512x8192_S32x8192_480_0).toLoadRect (harg2.unread x0))⟩,
    ⟨Rect.unit (s := S512x128) ![448, 0] S32x128.size inb_S512x128_S32x128_448_0, scaleBlk (View.readAt (Elt F) arg2.view (Rect.unit (s := S512x8192) ![448, 0] S32x8192.size inb_S512x8192_S32x8192_448_0).toLoadRect (harg2.unread x0))⟩,
    ⟨Rect.unit (s := S512x128) ![416, 0] S32x128.size inb_S512x128_S32x128_416_0, scaleBlk (View.readAt (Elt F) arg2.view (Rect.unit (s := S512x8192) ![416, 0] S32x8192.size inb_S512x8192_S32x8192_416_0).toLoadRect (harg2.unread x0))⟩,
    ⟨Rect.unit (s := S512x128) ![384, 0] S32x128.size inb_S512x128_S32x128_384_0, scaleBlk (View.readAt (Elt F) arg2.view (Rect.unit (s := S512x8192) ![384, 0] S32x8192.size inb_S512x8192_S32x8192_384_0).toLoadRect (harg2.unread x0))⟩,
    ⟨Rect.unit (s := S512x128) ![352, 0] S32x128.size inb_S512x128_S32x128_352_0, scaleBlk (View.readAt (Elt F) arg2.view (Rect.unit (s := S512x8192) ![352, 0] S32x8192.size inb_S512x8192_S32x8192_352_0).toLoadRect (harg2.unread x0))⟩,
    ⟨Rect.unit (s := S512x128) ![320, 0] S32x128.size inb_S512x128_S32x128_320_0, scaleBlk (View.readAt (Elt F) arg2.view (Rect.unit (s := S512x8192) ![320, 0] S32x8192.size inb_S512x8192_S32x8192_320_0).toLoadRect (harg2.unread x0))⟩,
    ⟨Rect.unit (s := S512x128) ![288, 0] S32x128.size inb_S512x128_S32x128_288_0, scaleBlk (View.readAt (Elt F) arg2.view (Rect.unit (s := S512x8192) ![288, 0] S32x8192.size inb_S512x8192_S32x8192_288_0).toLoadRect (harg2.unread x0))⟩,
    ⟨Rect.unit (s := S512x128) ![256, 0] S32x128.size inb_S512x128_S32x128_256_0, scaleBlk (View.readAt (Elt F) arg2.view (Rect.unit (s := S512x8192) ![256, 0] S32x8192.size inb_S512x8192_S32x8192_256_0).toLoadRect (harg2.unread x0))⟩,
    ⟨Rect.unit (s := S512x128) ![224, 0] S32x128.size inb_S512x128_S32x128_224_0, scaleBlk (View.readAt (Elt F) arg2.view (Rect.unit (s := S512x8192) ![224, 0] S32x8192.size inb_S512x8192_S32x8192_224_0).toLoadRect (harg2.unread x0))⟩,
    ⟨Rect.unit (s := S512x128) ![192, 0] S32x128.size inb_S512x128_S32x128_192_0, scaleBlk (View.readAt (Elt F) arg2.view (Rect.unit (s := S512x8192) ![192, 0] S32x8192.size inb_S512x8192_S32x8192_192_0).toLoadRect (harg2.unread x0))⟩,
    ⟨Rect.unit (s := S512x128) ![160, 0] S32x128.size inb_S512x128_S32x128_160_0, scaleBlk (View.readAt (Elt F) arg2.view (Rect.unit (s := S512x8192) ![160, 0] S32x8192.size inb_S512x8192_S32x8192_160_0).toLoadRect (harg2.unread x0))⟩,
    ⟨Rect.unit (s := S512x128) ![128, 0] S32x128.size inb_S512x128_S32x128_128_0, scaleBlk (View.readAt (Elt F) arg2.view (Rect.unit (s := S512x8192) ![128, 0] S32x8192.size inb_S512x8192_S32x8192_128_0).toLoadRect (harg2.unread x0))⟩,
    ⟨Rect.unit (s := S512x128) ![96, 0] S32x128.size inb_S512x128_S32x128_96_0, scaleBlk (View.readAt (Elt F) arg2.view (Rect.unit (s := S512x8192) ![96, 0] S32x8192.size inb_S512x8192_S32x8192_96_0).toLoadRect (harg2.unread x0))⟩,
    ⟨Rect.unit (s := S512x128) ![64, 0] S32x128.size inb_S512x128_S32x128_64_0, scaleBlk (View.readAt (Elt F) arg2.view (Rect.unit (s := S512x8192) ![64, 0] S32x8192.size inb_S512x8192_S32x8192_64_0).toLoadRect (harg2.unread x0))⟩,
    ⟨Rect.unit (s := S512x128) ![32, 0] S32x128.size inb_S512x128_S32x128_32_0, scaleBlk (View.readAt (Elt F) arg2.view (Rect.unit (s := S512x8192) ![32, 0] S32x8192.size inb_S512x8192_S32x8192_32_0).toLoadRect (harg2.unread x0))⟩,
    ⟨Rect.unit (s := S512x128) ![0, 0] S32x128.size inb_S512x128_S32x128_0_0, scaleBlk (View.readAt (Elt F) arg2.view (Rect.unit (s := S512x8192) ![0, 0] S32x8192.size inb_S512x8192_S32x8192_0_0).toLoadRect (harg2.unread x0))⟩] := rfl

theorem pieces4 : ∀ p ∈ kernelRun0_A.sl.H4_16 c arg2 harg2 x0, ∀ x : p.1.shape.Idx, p.2 x = codes x0 (p.1.emb x) := by
  rw [pieces4_eq]
  simp only [List.forall_mem_cons, List.not_mem_nil, IsEmpty.forall_iff, implies_true, and_true]
  refine ⟨?_, ?_, ?_, ?_, ?_, ?_, ?_, ?_, ?_, ?_, ?_, ?_, ?_, ?_, ?_, ?_⟩
  · intro x; rw [readAt_rows arg2 harg2 x0 480 15 (by decide)]; exact codes_emb x0 480 15 (by decide) _ x
  · intro x; rw [readAt_rows arg2 harg2 x0 448 14 (by decide)]; exact codes_emb x0 448 14 (by decide) _ x
  · intro x; rw [readAt_rows arg2 harg2 x0 416 13 (by decide)]; exact codes_emb x0 416 13 (by decide) _ x
  · intro x; rw [readAt_rows arg2 harg2 x0 384 12 (by decide)]; exact codes_emb x0 384 12 (by decide) _ x
  · intro x; rw [readAt_rows arg2 harg2 x0 352 11 (by decide)]; exact codes_emb x0 352 11 (by decide) _ x
  · intro x; rw [readAt_rows arg2 harg2 x0 320 10 (by decide)]; exact codes_emb x0 320 10 (by decide) _ x
  · intro x; rw [readAt_rows arg2 harg2 x0 288 9 (by decide)]; exact codes_emb x0 288 9 (by decide) _ x
  · intro x; rw [readAt_rows arg2 harg2 x0 256 8 (by decide)]; exact codes_emb x0 256 8 (by decide) _ x
  · intro x; rw [readAt_rows arg2 harg2 x0 224 7 (by decide)]; exact codes_emb x0 224 7 (by decide) _ x
  · intro x; rw [readAt_rows arg2 harg2 x0 192 6 (by decide)]; exact codes_emb x0 192 6 (by decide) _ x
  · intro x; rw [readAt_rows arg2 harg2 x0 160 5 (by decide)]; exact codes_emb x0 160 5 (by decide) _ x
  · intro x; rw [readAt_rows arg2 harg2 x0 128 4 (by decide)]; exact codes_emb x0 128 4 (by decide) _ x
  · intro x; rw [readAt_rows arg2 harg2 x0 96 3 (by decide)]; exact codes_emb x0 96 3 (by decide) _ x
  · intro x; rw [readAt_rows arg2 harg2 x0 64 2 (by decide)]; exact codes_emb x0 64 2 (by decide) _ x
  · intro x; rw [readAt_rows arg2 harg2 x0 32 1 (by decide)]; exact codes_emb x0 32 1 (by decide) _ x
  · intro x; rw [readAt_rows arg2 harg2 x0 0 0 (by decide)]; exact codes_emb x0 0 0 (by decide) _ x

theorem pieces5 : ∀ p ∈ kernelRun0_A.sl.H5_16 c arg2 harg2 x0, ∀ x : p.1.shape.Idx, p.2 x = scales x0 (p.1.emb x) := by
  rw [pieces5_eq]
  simp only [List.forall_mem_cons, List.not_mem_nil, IsEmpty.forall_iff, implies_true, and_true]
  refine ⟨?_, ?_, ?_, ?_, ?_, ?_, ?_, ?_, ?_, ?_, ?_, ?_, ?_, ?_, ?_, ?_⟩
  · intro x; rw [readAt_rows arg2 harg2 x0 480 15 (by decide)]; exact scales_emb x0 480 15 (by decide) _ x
  · intro x; rw [readAt_rows arg2 harg2 x0 448 14 (by decide)]; exact scales_emb x0 448 14 (by decide) _ x
  · intro x; rw [readAt_rows arg2 harg2 x0 416 13 (by decide)]; exact scales_emb x0 416 13 (by decide) _ x
  · intro x; rw [readAt_rows arg2 harg2 x0 384 12 (by decide)]; exact scales_emb x0 384 12 (by decide) _ x
  · intro x; rw [readAt_rows arg2 harg2 x0 352 11 (by decide)]; exact scales_emb x0 352 11 (by decide) _ x
  · intro x; rw [readAt_rows arg2 harg2 x0 320 10 (by decide)]; exact scales_emb x0 320 10 (by decide) _ x
  · intro x; rw [readAt_rows arg2 harg2 x0 288 9 (by decide)]; exact scales_emb x0 288 9 (by decide) _ x
  · intro x; rw [readAt_rows arg2 harg2 x0 256 8 (by decide)]; exact scales_emb x0 256 8 (by decide) _ x
  · intro x; rw [readAt_rows arg2 harg2 x0 224 7 (by decide)]; exact scales_emb x0 224 7 (by decide) _ x
  · intro x; rw [readAt_rows arg2 harg2 x0 192 6 (by decide)]; exact scales_emb x0 192 6 (by decide) _ x
  · intro x; rw [readAt_rows arg2 harg2 x0 160 5 (by decide)]; exact scales_emb x0 160 5 (by decide) _ x
  · intro x; rw [readAt_rows arg2 harg2 x0 128 4 (by decide)]; exact scales_emb x0 128 4 (by decide) _ x
  · intro x; rw [readAt_rows arg2 harg2 x0 96 3 (by decide)]; exact scales_emb x0 96 3 (by decide) _ x
  · intro x; rw [readAt_rows arg2 harg2 x0 64 2 (by decide)]; exact scales_emb x0 64 2 (by decide) _ x
  · intro x; rw [readAt_rows arg2 harg2 x0 32 1 (by decide)]; exact scales_emb x0 32 1 (by decide) _ x
  · intro x; rw [readAt_rows arg2 harg2 x0 0 0 (by decide)]; exact scales_emb x0 0 0 (by decide) _ x

theorem cover4 : ∀ y : S512x8192.Idx, ∃ p ∈ kernelRun0_A.sl.H4_16 c arg2 harg2 x0, y ∈ p.1.set :=
  View.cover_of_tiledL _ S32x8192.size (by sl_kernel_rfl)

theorem cover5 : ∀ y : S512x128.Idx, ∃ p ∈ kernelRun0_A.sl.H5_16 c arg2 harg2 x0, y ∈ p.1.set :=
  View.cover_of_tiledL _ S32x128.size (by sl_kernel_rfl)

theorem canon4 : View.canon (kernelRun0_A.sl.H4_16 c arg2 harg2 x0) = codes x0 :=
  funext fun y => View.canon_apply_of_pieces (codes x0) _ (pieces4 c arg2 harg2 x0) y (cover4 c arg2 harg2 x0 y)

theorem canon5 : View.canon (kernelRun0_A.sl.H5_16 c arg2 harg2 x0) = scales x0 :=
  funext fun y => View.canon_apply_of_pieces (scales x0) _ (pieces5 c arg2 harg2 x0) y (cover5 c arg2 harg2 x0 y)

end Cert.KernelIdeal.Gen

end
-- ==== Proof.Blocks.lean ====
/- What one run of the kernel body leaves in each output block, whether or not it quantises. -/
module

public import proofs.«01_k».proof.Proof.RunA
public import proofs.«01_k».proof.Proof.RunB
public import proofs.«01_k».proof.Proof.Quant
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.ValueIdx

variable {F : FTy → Type} [FloatOps F]

/-- A box of the whole shape at offset zero places every index at itself. -/
theorem emb_zero {s : Shape} (off : Fin s.rank → ℕ) (h : ∀ a, off a = 0) (inb : ∀ a, off a + s.size a ≤ s.size a) (x : s.Idx) :
    (Rect.unit (s := s) off s.size inb).emb x = x := by
  funext a
  apply Fin.ext
  rw [Rect.emb_apply]
  show off a + 1 * (x a).val = (x a).val
  rw [h a]; omega

/-- Loading the whole of a memref held at contents that read `X` reads `X`. -/
theorem readAt_whole {s : Shape} {e : EltTy} (M : Memref sig .tc .vmem s e) (h : M.IsWhole) (X : Vec F s e)
    (off : Fin s.rank → ℕ) (h0 : ∀ a, off a = 0) (inb : ∀ a, off a + s.size a ≤ s.size a) :
    View.readAt (Elt F) M.view (Rect.unit (s := s) off s.size inb).toLoadRect (h.unread X) = X := by
  funext x
  rw [h.readAt_unread]
  exact congrArg X (emb_zero off h0 inb x)

/-- The first lane of the scales, as a column. -/
def col0 (v : Vec F S512x128 .f32) : Vec F S512x1 .f32 := fun z => v (ix2 (n0 := 512) (n1 := 128) (z 0) 0)

theorem col0_idx (inb : ∀ a, (![0, 0] : Fin 2 → ℕ) a + S512x1.size a ≤ S512x128.size a) (z : S512x1.Idx) :
    (Rect.unit (s := S512x128) ![0, 0] S512x1.size inb).emb z = ix2 (n0 := 512) (n1 := 128) (z 0) 0 := by
  funext a
  apply Fin.ext
  have h1 : (z 1).val < 1 := (z 1).isLt
  match a with
  | ⟨0, _⟩ => show 0 + 1 * (z 0).val = (z 0).val; omega
  | ⟨1, _⟩ => show 0 + 1 * (z 1).val = 0; omega

/-- The product block from a block of tokens and a block of weights with their scales. -/
def prod (x0 : Vec F S512x8192 .bf16) (x1 : Vec F S512x8192 .fp8e4m3) (x2 : Vec F S1x512 .f32) : Vec F S512x512 .bf16 :=
  k0_pay2 (codes x0) x1 (col0 (scales x0)) x2

theorem v3_eq (c : Dev nD) (arg2 : Memref sig .tc .vmem S512x8192 .bf16) (harg2 : arg2.IsWhole) (arg6 : Memref sig .tc .vmem S512x8192 .fp8e4m3)
    (x0 : Vec F S512x8192 .bf16) : kernelRun0_A.sl.v3 c arg2 harg2 arg6 x0 = codes x0 := by
  unfold kernelRun0_A.sl.v3
  rw [View.readCov_eq_canon', canon4]
  funext j
  exact congrArg (codes x0) (emb_zero (s := S512x8192) ![0, 0] (by decide) _ j)

theorem v7_eq (c : Dev nD) (arg2 : Memref sig .tc .vmem S512x8192 .bf16) (harg2 : arg2.IsWhole) (arg7 : Memref sig .tc .vmem S512x128 .f32)
    (x0 : Vec F S512x8192 .bf16) : kernelRun0_A.sl.v7 c arg2 harg2 arg7 x0 = col0 (scales x0) := by
  unfold kernelRun0_A.sl.v7
  rw [View.readCov_eq_canon', canon5]
  funext j
  exact congrArg (scales x0) (col0_idx _ j)

/-- A run that quantises leaves the product block, -/
theorem readA_3 (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x128 .f32) (harg7 : arg7.IsWhole) (hc0 : cond0_0 i)
    (x0 : Vec F S512x8192 .bf16) (x1 : Vec F S512x8192 .fp8e4m3) (x2 : Vec F S1x512 .f32) (f) :
    arg5.view.read (Elt F) (arg5.view.writes (Elt F) f (kernelRun0_A c i arg2 harg2 arg3 harg3 arg4 harg4 arg5 harg5 arg6 harg6 arg7 harg7 hc0 x0 x1 x2).1) = prod x0 x1 x2 := by
  unfold kernelRun0_A
  dsimp only
  refine (View.read_writes_full (Val := Elt F) arg5.view f (off := ![0, 0]) _ _ []).trans ?_
  unfold prod
  rw [v3_eq, v7_eq]
  congr 1
  · exact readAt_whole arg3 harg3 x1 ![0, 0] (by decide) _
  · exact readAt_whole arg4 harg4 x2 ![0, 0] (by decide) _

/-- the codes -/
theorem readA_4 (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x128 .f32) (harg7 : arg7.IsWhole) (hc0 : cond0_0 i)
    (x0 : Vec F S512x8192 .bf16) (x1 : Vec F S512x8192 .fp8e4m3) (x2 : Vec F S1x512 .f32) (f) :
    arg6.view.read (Elt F) (arg6.view.writes (Elt F) f (kernelRun0_A c i arg2 harg2 arg3 harg3 arg4 harg4 arg5 harg5 arg6 harg6 arg7 harg7 hc0 x0 x1 x2).2.1) = codes x0 := by
  have e : (kernelRun0_A c i arg2 harg2 arg3 harg3 arg4 harg4 arg5 harg5 arg6 harg6 arg7 harg7 hc0 x0 x1 x2).2.1 = kernelRun0_A.sl.H4_16 c arg2 harg2 x0 := by unfold kernelRun0_A; dsimp only
  rw [e, View.read_writes_eq_canon _ _ _ (cover4 c arg2 harg2 x0), canon4]

/-- and the scales. -/
theorem readA_5 (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x128 .f32) (harg7 : arg7.IsWhole) (hc0 : cond0_0 i)
    (x0 : Vec F S512x8192 .bf16) (x1 : Vec F S512x8192 .fp8e4m3) (x2 : Vec F S1x512 .f32) (f) :
    arg7.view.read (Elt F) (arg7.view.writes (Elt F) f (kernelRun0_A c i arg2 harg2 arg3 harg3 arg4 harg4 arg5 harg5 arg6 harg6 arg7 harg7 hc0 x0 x1 x2).2.2.1) = scales x0 := by
  have e : (kernelRun0_A c i arg2 harg2 arg3 harg3 arg4 harg4 arg5 harg5 arg6 harg6 arg7 harg7 hc0 x0 x1 x2).2.2.1 = kernelRun0_A.sl.H5_16 c arg2 harg2 x0 := by unfold kernelRun0_A; dsimp only
  rw [e, View.read_writes_eq_canon _ _ _ (cover5 c arg2 harg2 x0), canon5]

/-- A run that finds the codes and scales in place leaves the same product block. -/
theorem readB_3 (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x128 .f32) (harg7 : arg7.IsWhole) (hc0 : ¬cond0_0 i)
    (x0 : Vec F S512x8192 .bf16) (x1 : Vec F S512x8192 .fp8e4m3) (x2 : Vec F S1x512 .f32) (f) :
    arg5.view.read (Elt F) (arg5.view.writes (Elt F) f (kernelRun0_B c i arg2 harg2 arg3 harg3 arg4 harg4 arg5 harg5 arg6 harg6 arg7 harg7 hc0 x0 x1 x2 (codes x0) (scales x0)).1) = prod x0 x1 x2 := by
  unfold kernelRun0_B
  dsimp only
  refine (View.read_writes_full (Val := Elt F) arg5.view f (off := ![0, 0]) _ _ []).trans ?_
  unfold prod
  congr 1
  · exact readAt_whole arg6 harg6 _ ![0, 0] (by decide) _
  · exact readAt_whole arg3 harg3 x1 ![0, 0] (by decide) _
  · funext j
    rw [harg7.readAt_unread]
    exact congrArg (scales x0) (col0_idx _ j)
  · exact readAt_whole arg4 harg4 x2 ![0, 0] (by decide) _

end Cert.KernelIdeal.Gen

end
-- ==== Proof.Run.lean ====
/- The kernel's run: what every staging buffer holds at every grid point, and the final state. -/
module

public import proofs.«01_k».proof.Proof.Blocks
public import Idealize.ShloMosaic.Lib.Pipeline.TableIdle
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the output windows are idle -/

theorem liveAt0_3 (t : Fin cfg0.N) : cfg0.idle 3 (grid0.coords t) = false := rfl
theorem idle4_eq (t : Fin cfg0.N) : cfg0.idle 4 (grid0.coords t) = !(k0_cond1 (grid0.coords t) == 1#1) := rfl
theorem idle5_eq (t : Fin cfg0.N) : cfg0.idle 5 (grid0.coords t) = !(k0_cond1 (grid0.coords t) == 1#1) := rfl

/-- Codes and scales are stored exactly at the first point of a row of the grid. -/
theorem live4 (t : Fin cfg0.N) (h : t.val % 22 = 0) : cfg0.idle 4 (grid0.coords t) = false := by
  rw [idle4_eq, (hcond0_0 t).mpr h]; rfl
theorem live5 (t : Fin cfg0.N) (h : t.val % 22 = 0) : cfg0.idle 5 (grid0.coords t) = false := by
  rw [idle5_eq, (hcond0_0 t).mpr h]; rfl
theorem idle4 (t : Fin cfg0.N) (h : ¬t.val % 22 = 0) : cfg0.idle 4 (grid0.coords t) = true := by
  rw [idle4_eq, Bool.not_eq_true', beq_eq_false_iff_ne]; exact fun e => h ((hcond0_0 t).mp e)
theorem idle5 (t : Fin cfg0.N) (h : ¬t.val % 22 = 0) : cfg0.idle 5 (grid0.coords t) = true := by
  rw [idle5_eq, Bool.not_eq_true', beq_eq_false_iff_ne]; exact fun e => h ((hcond0_0 t).mp e)

theorem noflush4 (t : Fin cfg0.N) (h : ¬t.val % 22 = 21) : (cfg0.win 4).flush t = false := by
  rw [← Bool.not_eq_true]; exact fun e => h ((flush0_4 t).mp e)
theorem noflush5 (t : Fin cfg0.N) (h : ¬t.val % 22 = 21) : (cfg0.win 5).flush t = false := by
  rw [← Bool.not_eq_true]; exact fun e => h ((flush0_5 t).mp e)

/-- A buffer is fresh exactly at the first point of a row of the grid. -/
theorem fresh4 (n : ℕ) (hn : n < cfg0.N) (h : ¬n % 22 = 0) : cfg0.fresh 4 n = false := by
  induction n with
  | zero => exact absurd (Nat.zero_mod _) h
  | succ k ih =>
    rw [Cfg.fresh_succ cfg0 4 k (Nat.lt_of_succ_lt hn), noflush4 _ (by dsimp only; omega), Bool.false_or]
    by_cases hk : k % 22 = 0
    · rw [live4 _ hk, Bool.false_and]
    · rw [ih (Nat.lt_of_succ_lt hn) hk, Bool.and_false]
theorem fresh5 (n : ℕ) (hn : n < cfg0.N) (h : ¬n % 22 = 0) : cfg0.fresh 5 n = false := by
  induction n with
  | zero => exact absurd (Nat.zero_mod _) h
  | succ k ih =>
    rw [Cfg.fresh_succ cfg0 5 k (Nat.lt_of_succ_lt hn), noflush5 _ (by dsimp only; omega), Bool.false_or]
    by_cases hk : k % 22 = 0
    · rw [live5 _ hk, Bool.false_and]
    · rw [ih (Nat.lt_of_succ_lt hn) hk, Bool.and_false]

/-! ## The proof data -/

/-- What the staging buffers hold after each point: the inputs their blocks, the outputs the product block, the codes and
    the scales of the point's block of tokens. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (iblk m c 0 t) (iblk m c 1 t) (iblk m c 2 t)
    | ⟨4, _⟩ => codes (iblk m c 0 t)
    | ⟨5, _⟩ => scales (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prod (iblk m c 0 t) (iblk m c 1 t) (iblk m c 2 t) := by dsimp only [dats]
theorem after0_4 (c : Dev nD) (t : Fin cfg0.N) : (dats m 0 c).after 4 t = codes (iblk m c 0 t) := by dsimp only [dats]
theorem after0_5 (c : Dev nD) (t : Fin cfg0.N) : (dats m 0 c).after 5 t = scales (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Within a row of the grid the block of tokens stays. -/
theorem iblk0_prev (c : Dev nD) (t : Fin cfg0.N) (h : ¬t.val % 22 = 0) :
    iblk m c 0 t = iblk m c 0 ⟨t.val - 1, by omega⟩ := by
  have hf : (cfg0.win 0).fetch t = false := by rw [← Bool.not_eq_true]; exact fun e => h ((fetch0_0 t).mp e)
  obtain ⟨_, hix⟩ := (cfg0.win 0).index_eq_of_fetch rfl t hf
  have key := (dats m 0 c).fetched_congr 0 hix rfl (iblk m c 0 t)
  have e (t : Fin cfg0.N) (d) : (dats m 0 c).fetched 0 t d = iblk m c 0 t := by
    unfold Dat.fetched Dat.blockOf iblk; rw [A_eq]; try rfl
  rw [e, e] at key
  exact key

theorem before0_4 (c : Dev nD) (t : Fin cfg0.N) (h : ¬t.val % 22 = 0) (d) : (dats m 0 c).before 4 t d = codes (iblk m c 0 t) := by
  have hcarry : ∀ (t : Fin cfg0.N) (_ : t.val ≠ 0), cfg0.idle 4 (grid0.coords t) = true → cfg0.fresh 4 t.val = false →
      (dats m 0 c).after 4 t = (dats m 0 c).after 4 ⟨t.val - 1, by omega⟩ := by
    intro t _ hi _
    rw [after0_4, after0_4]
    have h : ¬t.val % 22 = 0 := fun e => by rw [live4 t e] at hi; exact Bool.false_ne_true hi
    rw [iblk0_prev m c t h]
  rw [Dat.before_out_traj _ 4 rfl (fun _ _ => rfl) hcarry t.val t rfl d, if_neg (by rw [fresh4 _ t.isLt h]; exact Bool.false_ne_true),
    after0_4, ← iblk0_prev m c t h]

theorem before0_5 (c : Dev nD) (t : Fin cfg0.N) (h : ¬t.val % 22 = 0) (d) : (dats m 0 c).before 5 t d = scales (iblk m c 0 t) := by
  have hcarry : ∀ (t : Fin cfg0.N) (_ : t.val ≠ 0), cfg0.idle 5 (grid0.coords t) = true → cfg0.fresh 5 t.val = false →
      (dats m 0 c).after 5 t = (dats m 0 c).after 5 ⟨t.val - 1, by omega⟩ := by
    intro t _ hi _
    rw [after0_5, after0_5]
    have h : ¬t.val % 22 = 0 := fun e => by rw [live5 t e] at hi; exact Bool.false_ne_true hi
    rw [iblk0_prev m c t h]
  rw [Dat.before_out_traj _ 5 rfl (fun _ _ => rfl) hcarry t.val t rfl d, if_neg (by rw [fresh5 _ t.isLt h]; exact Bool.false_ne_true),
    after0_5, ← iblk0_prev m c t h]

/-- A buffer an idle point hands back at what the row's first point stored is as the pipeline wants it. -/
theorem leaves4_B (c : Dev nD) (t : Fin cfg0.N) (h : ¬t.val % 22 = 0) :
    owns (c : Thread nD τ) (ms0_4 t) fullShare (codes (iblk m c 0 t)) ⊢ (dats m 0 c).leavesExact 4 t := by
  by_cases hf : t.val % 22 = 21
  · rw [show (dats m 0 c).leavesExact 4 t = owns (c : Thread nD τ) (ms0_4 t) fullShare ((dats m 0 c).after 4 t) from by
      unfold Dat.leavesExact; rw [idle4 t h, (flush0_4 t).mpr hf], after0_4]
  · rw [Dat.leavesExact_idle _ 4 t (idle4 t h) (noflush4 t hf)]
    iintro H
    iexists (codes (iblk m c 0 t))
    rw [before0_4 m c t h]
    iexact H

theorem leaves5_B (c : Dev nD) (t : Fin cfg0.N) (h : ¬t.val % 22 = 0) :
    owns (c : Thread nD τ) (ms0_5 t) fullShare (scales (iblk m c 0 t)) ⊢ (dats m 0 c).leavesExact 5 t := by
  by_cases hf : t.val % 22 = 21
  · rw [show (dats m 0 c).leavesExact 5 t = owns (c : Thread nD τ) (ms0_5 t) fullShare ((dats m 0 c).after 5 t) from by
      unfold Dat.leavesExact; rw [idle5 t h, (flush0_5 t).mpr hf], after0_5]
  · rw [Dat.leavesExact_idle _ 5 t (idle5 t h) (noflush5 t hf)]
    iintro H
    iexists (scales (iblk m c 0 t))
    rw [before0_5 m c t h]
    iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: at a row's first point it quantises, at the others it finds what that point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 22 = 0
  · rw [show (dats m 0 c).leavesExact 4 t = owns (c : Thread nD τ) (ms0_4 t) fullShare ((dats m 0 c).after 4 t) from by
      unfold Dat.leavesExact; rw [live4 t h0], after0_4]
    rw [show (dats m 0 c).leavesExact 5 t = owns (c : Thread nD τ) (ms0_5 t) fullShare ((dats m 0 c).after 5 t) from by
      unfold Dat.leavesExact; rw [live5 t h0], after0_5]
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact readA_3 c _ _ _ _ _ _ _ _ _ _ _ _ _ _ _ _ _ _
    isplitl [H4]
    · unfold owns; iexists _; isplitr
      swap; · iexact H4
      ipureintro; exact readA_4 c _ _ _ _ _ _ _ _ _ _ _ _ _ _ _ _ _ _
    unfold owns; iexists _; isplitr
    swap; · iexact H5
    ipureintro; exact readA_5 c _ _ _ _ _ _ _ _ _ _ _ _ _ _ _ _ _ _
  · simp only [before0_4 m c t h0, before0_5 m c t h0]
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (codes (iblk m c 0 t)) (scales (iblk m c 0 t))).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, H4, H5⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact readB_3 c _ _ _ _ _ _ _ _ _ _ _ _ _ _ _ _ _ _
    isplitl [H4]
    · iapply (leaves4_B m c t h0); iexact H4
    iapply (leaves5_B m c t h0); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the kernel ends with its arrays at what the proof data say and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the kernel read over the reals. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Words.lean ====
/- The frame of the kernel on words. The kernel and its reading over the reals are printed alike, so that the run proved at any
   reading of the floats is the kernel's own run. -/
module

public import proofs.«01_k».proof.Proof.Gen.Kernel
public import proofs.«01_k».proof.Proof.Run

@[expose] public section

set_option maxRecDepth 16384

noncomputable section

namespace Cert.Kernel.Gen

open Idealize.ShloMosaic Idealize.ShloMosaic.TcCoe
open Idealize.SL.Sem

variable {F : FTy → Type} [FloatOps F]

set_option maxHeartbeats 4000000 in
/-- The two programs are one around their bodies. -/
theorem main_eq : (Cert.Kernel.main (F := F)) = Cert.KernelIdeal.main (F := F) := rfl

set_option maxHeartbeats 4000000 in
/-- The two bodies are one program. -/
theorem body_eq : Cert.Kernel.cc0_fp8_linear (F := F) = Cert.KernelIdeal.cc0_fp8_linear (F := F) := rfl

/-- The two body tables are one. -/
theorem defs₀_eq : (Cert.Kernel.defs₀ (F := F)) = Cert.KernelIdeal.defs₀ (F := F) := by
  unfold Cert.Kernel.defs₀ Cert.KernelIdeal.defs₀
  refine congrArg Defs.onTc (funext fun l => ?_)
  match l with
  | 0 =>
    funext a
    obtain ⟨t, s⟩ := a
    exact congrFun (congrFun (congrFun (congrFun (congrFun (congrFun (congrFun (congrFun (congrFun (congrFun (congrFun (congrFun (congrFun body_eq _) _) _) _) _) _) _) _) _) _) _) _) _

/-- The two programs' tables, pipeline included, are one. -/
theorem defs_eq : (Cert.Kernel.defs (F := F)) = Cert.KernelIdeal.defs (F := F) :=
  congrArg (Idealize.ShloMosaic.Pipeline.defs Cert.Kernel.pcfgs) defs₀_eq

variable (m : (ℓ : Loc Cert.Kernel.nD Cert.Kernel.τ Cert.Kernel.sig) → Buf (Elt F) ℓ) (ρ : Dev Cert.Kernel.nD → PrngReg)

/-- The frame of the kernel at any reading of the floats. -/
theorem frame : θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact Cert.KernelIdeal.Gen.frame (F := F) m ρ

end Cert.Kernel.Gen

end
-- ==== Proof.Exponent.lean ====
/- The exponent of a token's scale: the kernel's search over exponent fields and the reference's logarithm agree. -/
module

public import Idealize.ShloMosaic.PureOps.Ideal.Laws
public import Idealize.ShloMosaic.Lib.IdealHost

@[expose] public section

set_option maxRecDepth 16384

noncomputable section

namespace Cert.Quant

open Idealize.ShloMosaic

/-- The value of the f32 word whose exponent field is `b` and whose other fields are zero. -/
def ff (b : BitVec 32) : EReal := Ideal.ofBits .f32 (IntOp.shli .vector b 23#32 : BitVec 32)

/-- One step of the search for the exponent field of `t`. -/
def kStep (t : EReal) (b k : BitVec 32) : BitVec 32 :=
  Scalar.select (Ideal.cmp .oge t (ff (IntOp.addi b k))) (IntOp.addi b k) b

/-- The exponent field of `t` as the kernel finds it. -/
def kField (t : EReal) : BitVec 32 :=
  kStep t (kStep t (kStep t (kStep t (kStep t (kStep t (kStep t (kStep t 0#32
    128#32) 64#32) 32#32) 16#32) 8#32) 4#32) 2#32) 1#32

/-- The exponent of the scale, from the exponent field. -/
def kExp (b : BitVec 32) : BitVec 32 :=
  Scalar.select (IntOp.ori (IntOp.cmpi .eq b 0#32) (IntOp.cmpi .eq b 255#32)) 0#32 (IntOp.subi b 126#32)

/-- Two to the power `e`, by its bits. -/
def kPow (e : BitVec 32) : EReal := ff (IntOp.addi e 127#32)

/-- The kernel's scale for the reduced magnitude `t`, -/
def kScale (t : EReal) : EReal := kPow (kExp (kField t))
/-- and the factor its tokens are multiplied by. -/
def kInv (t : EReal) : EReal := kPow (IntOp.subi 0#32 (kExp (kField t)))

/-- The exponent of the scale as the reference states it. -/
def rExp (t : EReal) : EReal :=
  Scalar.select (IntOp.ori (Ideal.cmp .olt t (Ideal.ofBits .f32 0x00800000#32)) (Ideal.cmp .oeq t (Ideal.ofBits .f32 0x7F800000#32)))
    (Ideal.ofBits .f32 0x00000000#32)
    (Ideal.liftRound Int.floor (Ideal.div (Ideal.log t) (Ideal.log (Ideal.ofBits .f32 0x40000000#32))) + Ideal.ofBits .f32 0x3F800000#32)

/-- The reference's scale, -/
def rScale (t : EReal) : EReal := Ideal.exp2 (rExp t)
/-- and the factor its tokens are multiplied by. -/
def rInv (t : EReal) : EReal := Ideal.exp2 (Ideal.ofBits .f32 0x00000000#32 - rExp t)

/-! ## The values of words with only an exponent field -/

theorem field_bits : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- A pattern whose sign and fraction fields are zero denotes a power of two, zero or infinity by its exponent field. -/
theorem ieee_plain (e m : ℕ) {w : ℕ} (b : BitVec w) (n : ℕ) (h1 : (b.extractLsb' (e + m) 1 == 1#1) = false)
    (h2 : (b.extractLsb' m e).toNat = n) (h3 : (b.extractLsb' 0 m).toNat = 0) :
    Ideal.ieee e m b = if n = 2 ^ e - 1 then ⊤ else if n = 0 then 0 else (((2 : ℝ) ^ ((n : ℤ) - (2 ^ (e - 1) - 1)) : ℝ) : EReal) := by
  have hp : (2 : ℝ) ^ ((n : ℤ) - (2 ^ (e - 1) - 1)) = (2 ^ m + 0 : ℕ) * (2 : ℝ) ^ ((n : ℤ) - (2 ^ (e - 1) - 1) - m) := by
    rw [zpow_sub₀ (two_ne_zero) _ (m : ℤ), zpow_natCast]
    push_cast
    rw [add_zero, mul_div_cancel₀ _ (pow_ne_zero m two_ne_zero)]
  unfold Ideal.ieee
  simp only [h1, h2, h3]
  rw [hp]
  simp

theorem ff_of (n : ℕ) (hn : n < 256) : ff (BitVec.ofNat 32 n) =
    if n = 2 ^ 8 - 1 then ⊤ else if n = 0 then 0 else (((2 : ℝ) ^ ((n : ℤ) - (2 ^ (8 - 1) - 1)) : ℝ) : EReal) := by
  obtain ⟨h1, h2, h3⟩ := field_bits ⟨n, hn⟩
  exact ieee_plain 8 23 _ n h1 h2 h3

theorem ff_zero : ff 0#32 = 0 := (ff_of 0 (by omega)).trans (by simp)

theorem ff_top : ff 255#32 = ⊤ := (ff_of 255 (by omega)).trans (by simp)

theorem ff_pow (n : ℕ) (h0 : 1 ≤ n) (h1 : n ≤ 254) : ff (BitVec.ofNat 32 n) = (((2 : ℝ) ^ ((n : ℤ) - 127) : ℝ) : EReal) := by
  rw [ff_of n (by omega), if_neg (by omega), if_neg (by omega)]
  norm_num

/-! ## The search -/

theorem kStep_spec (t : EReal) (n k : ℕ) (hn : n + 2 * k ≤ 256) (hlo : n = 0 ∨ ff (BitVec.ofNat 32 n) ≤ t)
    (hhi : n + 2 * k = 256 ∨ t < ff (BitVec.ofNat 32 (n + 2 * k))) :
    ∃ n', kStep t (BitVec.ofNat 32 n) (BitVec.ofNat 32 k) = BitVec.ofNat 32 n' ∧ n' + k ≤ 256
      ∧ (n' = 0 ∨ ff (BitVec.ofNat 32 n') ≤ t) ∧ (n' + k = 256 ∨ t < ff (BitVec.ofNat 32 (n' + k))) := by
  have e : IntOp.addi (BitVec.ofNat 32 n) (BitVec.ofNat 32 k) = BitVec.ofNat 32 (n + k) := (BitVec.ofNat_add n k).symm
  unfold kStep
  rw [e]
  by_cases h : ff (BitVec.ofNat 32 (n + k)) ≤ t
  · refine ⟨n + k, ?_, by omega, .inr h, ?_⟩
    · simp [Scalar.select, Ideal.cmp, h]
    · rw [show n + k + k = n + 2 * k by omega]; exact hhi
  · refine ⟨n, ?_, by omega, hlo, .inr (not_le.mp h)⟩
    simp [Scalar.select, Ideal.cmp, h]

theorem kField_spec (t : EReal) : ∃ n : ℕ, kField t = BitVec.ofNat 32 n ∧ n ≤ 255
    ∧ (n = 0 ∨ ff (BitVec.ofNat 32 n) ≤ t) ∧ (n = 255 ∨ t < ff (BitVec.ofNat 32 (n + 1))) := by
  unfold kField
  obtain ⟨n1, e1, a1, b1, c1⟩ := kStep_spec t 0 128 (by omega) (.inl rfl) (.inl rfl)
  rw [show kStep t 0#32 128#32 = BitVec.ofNat 32 n1 from e1]
  obtain ⟨n2, e2, a2, b2, c2⟩ := kStep_spec t n1 64 a1 b1 c1
  rw [show kStep t (BitVec.ofNat 32 n1) 64#32 = BitVec.ofNat 32 n2 from e2]
  obtain ⟨n3, e3, a3, b3, c3⟩ := kStep_spec t n2 32 a2 b2 c2
  rw [show kStep t (BitVec.ofNat 32 n2) 32#32 = BitVec.ofNat 32 n3 from e3]
  obtain ⟨n4, e4, a4, b4, c4⟩ := kStep_spec t n3 16 a3 b3 c3
  rw [show kStep t (BitVec.ofNat 32 n3) 16#32 = BitVec.ofNat 32 n4 from e4]
  obtain ⟨n5, e5, a5, b5, c5⟩ := kStep_spec t n4 8 a4 b4 c4
  rw [show kStep t (BitVec.ofNat 32 n4) 8#32 = BitVec.ofNat 32 n5 from e5]
  obtain ⟨n6, e6, a6, b6, c6⟩ := kStep_spec t n5 4 a5 b5 c5
  rw [show kStep t (BitVec.ofNat 32 n5) 4#32 = BitVec.ofNat 32 n6 from e6]
  obtain ⟨n7, e7, a7, b7, c7⟩ := kStep_spec t n6 2 a6 b6 c6
  rw [show kStep t (BitVec.ofNat 32 n6) 2#32 = BitVec.ofNat 32 n7 from e7]
  obtain ⟨n8, e8, a8, b8, c8⟩ := kStep_spec t n7 1 a7 b7 c7
  rw [show kStep t (BitVec.ofNat 32 n7) 1#32 = BitVec.ofNat 32 n8 from e8]
  exact ⟨n8, rfl, by omega, b8, c8.imp_left fun h => by omega⟩

/-! ## The words of the exponent -/

theorem kExp_zero : kExp 0#32 = 0#32 := by decide +kernel
theorem kExp_top : kExp 255#32 = 0#32 := by decide +kernel

/-- Away from the ends the two factors' exponent fields are those of `2 ^ (n - 126)` and of its inverse. -/
theorem exp_words : ∀ n : Fin 256, 1 ≤ n.val → n.val ≤ 252 →
    IntOp.addi (kExp (BitVec.ofNat 32 n.val)) 127#32 = BitVec.ofNat 32 (n.val + 1)
    ∧ IntOp.addi (IntOp.subi 0#32 (kExp (BitVec.ofNat 32 n.val))) 127#32 = BitVec.ofNat 32 (253 - n.val) := by decide +kernel

theorem kPow_zero : kPow 0#32 = 1 := by
  have := ff_pow 127 (by omega) (by omega)
  unfold kPow
  rw [show IntOp.addi 0#32 127#32 = BitVec.ofNat 32 127 from by decide, this]
  norm_num

/-! ## The constants -/

theorem one_f32 : Ideal.ofBits .f32 0x3F800000#32 = ((1 : ℝ) : EReal) := by
  have := ff_pow 127 (by omega) (by omega)
  unfold ff at this
  rw [show IntOp.shli .vector (BitVec.ofNat 32 127) 23#32 = 0x3F800000#32 from by decide] at this
  rw [this]; norm_num
theorem two_f32 : Ideal.ofBits .f32 0x40000000#32 = ((2 : ℝ) : EReal) := by
  have := ff_pow 128 (by omega) (by omega)
  unfold ff at this
  rw [show IntOp.shli .vector (BitVec.ofNat 32 128) 23#32 = 0x40000000#32 from by decide] at this
  rw [this]; norm_num
theorem least_f32 : Ideal.ofBits .f32 0x00800000#32 = ff (BitVec.ofNat 32 1) := by
  unfold ff
  rw [show IntOp.shli .vector (BitVec.ofNat 32 1) 23#32 = 0x00800000#32 from by decide]
theorem inf_f32 : Ideal.ofBits .f32 0x7F800000#32 = ⊤ := by
  rw [← ff_top]; unfold ff
  rw [show IntOp.shli .vector (255#32) 23#32 = 0x7F800000#32 from by decide]

theorem exp2_real (r : ℝ) : Ideal.exp2 (r : EReal) = ((2 : ℝ) ^ r : ℝ) := rfl

theorem exp2_int (k : ℤ) : Ideal.exp2 (((k : ℝ) : ℝ) : EReal) = (((2 : ℝ) ^ k : ℝ) : EReal) := by
  rw [exp2_real, Real.rpow_intCast]

/-- Below the least normal number and at infinity the reference's exponent is zero. -/
theorem rExp_zero (t : EReal) (h : t < ff (BitVec.ofNat 32 1) ∨ t = ⊤) : rExp t = 0 := by
  unfold rExp
  rw [least_f32, inf_f32, Ideal.ofBits_zero_f32]
  rcases h with h | h
  · have hn : t ≠ ⊤ := ne_top_of_lt h
    simp [Scalar.select, Ideal.cmp, IntOp.ori, h, hn]
  · subst h
    simp [Scalar.select, Ideal.cmp, IntOp.ori]

/-- Between two powers of two the reference's exponent is the greater one's. -/
theorem rExp_pow (r : ℝ) (k : ℤ) (hk : -126 ≤ k) (h0 : (2 : ℝ) ^ k ≤ r) (h1 : r < (2 : ℝ) ^ (k + 1)) :
    rExp (r : EReal) = (((k + 1 : ℤ) : ℝ) : EReal) := by
  have hpos : 0 < r := lt_of_lt_of_le (zpow_pos two_pos k) h0
  have hlt : ¬((r : EReal) < ff (BitVec.ofNat 32 1)) := by
    rw [ff_pow 1 (by omega) (by omega), EReal.coe_lt_coe_iff, not_lt]
    refine le_trans (zpow_le_zpow_right₀ one_le_two ?_) h0
    push_cast; omega
  have hlog : Real.log 2 ≠ 0 := (Real.log_pos one_lt_two).ne'
  have hfl : ⌊Real.log r / Real.log 2⌋ = k := by
    rw [Int.floor_eq_iff]
    have hl : 0 < Real.log 2 := Real.log_pos one_lt_two
    constructor
    · rw [le_div_iff₀ hl, ← Real.log_zpow]
      exact Real.log_le_log (zpow_pos two_pos k) h0
    · have e : ((k : ℝ) + 1) = ((k + 1 : ℤ) : ℝ) := by push_cast; rfl
      rw [div_lt_iff₀ hl, e, ← Real.log_zpow]
      exact Real.log_lt_log hpos h1
  have hdiv : Ideal.div (Ideal.log (r : EReal)) (Ideal.log ((2 : ℝ) : EReal)) = ((Real.log r / Real.log 2 : ℝ) : EReal) := by
    have e1 : Ideal.log (r : EReal) = (Real.log r : EReal) := by
      show (if r ≤ 0 then (⊥ : EReal) else (Real.log r : EReal)) = _
      rw [if_neg (not_le.mpr hpos)]
    have e2 : Ideal.log ((2 : ℝ) : EReal) = (Real.log 2 : EReal) := by
      show (if (2 : ℝ) ≤ 0 then (⊥ : EReal) else (Real.log 2 : EReal)) = _
      rw [if_neg (by norm_num)]
    rw [e1, e2]
    unfold Ideal.div
    rw [if_neg (by exact_mod_cast hlog), ← EReal.coe_inv, ← EReal.coe_mul]
    rfl
  unfold rExp
  rw [least_f32, inf_f32, two_f32, one_f32, hdiv]
  have e3 : Ideal.liftRound Int.floor ((Real.log r / Real.log 2 : ℝ) : EReal) = ((k : ℝ) : EReal) := by
    show (((⌊Real.log r / Real.log 2⌋ : ℤ) : ℝ) : EReal) = _
    rw [hfl]
  rw [e3]
  simp only [Scalar.select, Ideal.cmp, IntOp.ori, hlt, EReal.coe_ne_top, decide_false]
  rw [if_neg (by decide), ← EReal.coe_add]
  push_cast
  rfl

/-- THE EXPONENTS AGREE: for a reduced magnitude below `2 ^ 126`, or infinite, both factors are equal. -/
theorem factors_eq (t : EReal) (h : t < ff (BitVec.ofNat 32 253) ∨ t = ⊤) : kScale t = rScale t ∧ kInv t = rInv t := by
  obtain ⟨n, en, hn, hlo, hhi⟩ := kField_spec t
  unfold kScale kInv rScale rInv
  rw [en, Ideal.ofBits_zero_f32]
  have hexp0 : Ideal.exp2 0 = 1 := by
    have := exp2_int 0
    simpa using this
  have hz : ∀ (b : BitVec 32), kExp b = 0#32 → rExp t = 0 →
      kPow (kExp b) = Ideal.exp2 (rExp t) ∧ kPow (IntOp.subi 0#32 (kExp b)) = Ideal.exp2 (0 - rExp t) := by
    intro b hb hr
    rw [hb, hr, show IntOp.subi 0#32 0#32 = 0#32 from by decide, kPow_zero, sub_zero, hexp0]
    exact ⟨rfl, rfl⟩
  rcases eq_or_ne t ⊤ with ht | ht
  · have : n = 255 := by
      rcases hhi with hhi | hhi
      · exact hhi
      · rw [ht] at hhi; exact absurd hhi not_top_lt
    subst this
    exact hz _ kExp_top (rExp_zero t (.inr ht))
  have hub : t < ff (BitVec.ofNat 32 253) := h.resolve_right ht
  rcases Nat.eq_zero_or_pos n with h0 | h0
  · subst h0
    exact hz _ kExp_zero (rExp_zero t (.inl (hhi.resolve_left (by omega))))
  have hlo' : ff (BitVec.ofNat 32 n) ≤ t := hlo.resolve_left (by omega)
  have hn' : n ≤ 252 := by
    by_contra hc
    have hle : ff (BitVec.ofNat 32 253) ≤ ff (BitVec.ofNat 32 n) := by
      rcases Nat.lt_or_ge n 255 with h5 | h5
      · rw [ff_pow 253 (by omega) (by omega), ff_pow n h0 (by omega), EReal.coe_le_coe_iff]
        exact zpow_le_zpow_right₀ one_le_two (by push_cast; omega)
      · have : n = 255 := by omega
        subst this
        rw [show ff (BitVec.ofNat 32 255) = ⊤ from ff_top]; exact le_top
    exact absurd (lt_of_lt_of_le hub (hle.trans hlo')) (lt_irrefl _)
  have hhi' : t < ff (BitVec.ofNat 32 (n + 1)) := hhi.resolve_left (by omega)
  rw [ff_pow n h0 (by omega)] at hlo'
  rw [ff_pow (n + 1) (by omega) (by omega)] at hhi'
  have hbot : t ≠ ⊥ := fun e => by rw [e] at hlo'; exact absurd (le_bot_iff.mp hlo') (EReal.coe_ne_bot _)
  lift t to ℝ using ⟨ht, hbot⟩ with r
  rw [EReal.coe_le_coe_iff] at hlo'
  rw [EReal.coe_lt_coe_iff] at hhi'
  have hr := rExp_pow r ((n : ℤ) - 127) (by omega) hlo' (by
    rw [show (n : ℤ) - 127 + 1 = ((n + 1 : ℕ) : ℤ) - 127 by push_cast; ring]; exact hhi')
  obtain ⟨w1, w2⟩ := exp_words ⟨n, by omega⟩ h0 hn'
  unfold kPow
  rw [hr, w1, w2, ff_pow (n + 1) (by omega) (by omega), ff_pow (253 - n) (by omega) (by omega)]
  constructor
  · rw [exp2_int]; congr 2; push_cast; ring
  · rw [zero_sub, ← EReal.coe_neg, ← Int.cast_neg, exp2_int]; congr 2; push_cast [Nat.cast_sub (show n ≤ 253 by omega)]; ring

end Cert.Quant

end
-- ==== Proof.Rows.lean ====
/- A token's row: its magnitude, its codes and its products, and how the two programs' operations read one. -/
module

public import proofs.«01_k».proof.Proof.Exponent
public import Idealize.ShloMosaic.Lib.Pointwise
public import Idealize.ShloMosaic.Lib.MatmulPlain
public import Idealize.ShloMosaic.Lib.ValueIdxCore
public import Idealize.ShloMosaic.Lib.ValueLayout
public import Idealize.ShloMosaic.Lib.ValueLayoutCasts
public import Idealize.ShloMosaic.PureOps.Ideal.Laws

@[expose] public section

set_option maxRecDepth 16384

noncomputable section

namespace Cert.Quant

open Idealize.ShloMosaic hiding ix1 ix2
open Idealize.ShloMosaic.ValueIdx

/-- The greatest magnitude in a token's row. -/
def mag (f : Fin 8192 → EReal) : EReal :=
  (Finset.univ : Finset (Fin 8192)).fold max (Ideal.ofBits .f32 0xFF800000#32) fun k => max (f k) (-(f k))

/-- The same divided by 448. -/
def red (f : Fin 8192 → EReal) : EReal := mag f * Ideal.ofBits .f32 0x3B124925#32

/-- A value multiplied and held within 448. -/
def code (x inv : EReal) : EReal :=
  min (Ideal.ofBits .f32 0x43E00000#32) (max (Ideal.ofBits .f32 0xC3E00000#32) (x * inv))

/-- One element of the product: a row of codes by a row of weights, scaled. -/
def lin (q w : Fin 8192 → EReal) (sc ws : EReal) : EReal :=
  (Ideal.ofBits .f32 0x00000000#32 + ∑ k : Fin 8192, q k * w k) * sc * ws

/-- A column along the rows: every entry of a row is the column's. -/
theorem broadcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's maximum. -/
theorem rowMax {N : ℕ} (x : FVec Ideal ⟨2, ![N, 8192]⟩ .f32) (h : Shape.Reduces ⟨2, ![N, 8192]⟩ [1] ⟨1, ![N]⟩)
    (hφ : FKind.Formats .f32) (hacc : 0xFF800000#32 = FKind.maximumf.neutral .f32 hφ) (r : Fin N) :
    multiReduction .maximumf [1] ⟨1, ![N]⟩ x 0xFF800000#32 h hφ hacc (ix1 r)
      = (Finset.univ : Finset (Fin 8192)).fold max (Ideal.ofBits .f32 0xFF800000#32) fun k => x (ix2 r k) := by
  refine (Ideal.multiReduction_maximumf_single x 0xFF800000#32 h hφ hacc (ix1 r)).trans ?_
  show Finset.fold max (Ideal.ofBits .f32 0xFF800000#32) _ (Finset.univ : Finset (Fin 8192)) = _
  congr 1
  funext k
  refine congrArg x ?_
  funext a; apply Fin.ext
  match a with
  | ⟨0, _⟩ => rfl
  | ⟨1, _⟩ => rfl

/-- A product of two matrices along their rows, scaled by a column and a row. -/
theorem scaled_matmul {M N : ℕ} (q : FVec Ideal ⟨2, ![M, 8192]⟩ .fp8e4m3) (w : FVec Ideal ⟨2, ![N, 8192]⟩ .fp8e4m3)
    (sc : FVec Ideal ⟨2, ![M, 1]⟩ .f32) (ws : FVec Ideal ⟨2, ![1, N]⟩ .f32)
    (h1 : (⟨2, ![M, 1]⟩ : Shape).Broadcasts ⟨2, ![M, N]⟩) (h2 : (⟨2, ![1, N]⟩ : Shape).Broadcasts ⟨2, ![M, N]⟩) (r : Fin M) (c : Fin N) :
    mulf (mulf (matmul (DotDims.transposedRhs M 8192 N) none q w (constant ⟨2, ![M, N]⟩ .f32 0x00000000#32))
      (broadcastTo ⟨2, ![M, N]⟩ sc h1)) (broadcastTo ⟨2, ![M, N]⟩ ws h2) (ix2 r c)
      = lin (fun k => q (ix2 r k)) (fun k => w (ix2 c k)) (sc (ix2 r 0)) (ws (ix2 0 c)) := by
  have hm := Ideal.matmul_transposedRhs_apply none q w (constant ⟨2, ![M, N]⟩ .f32 0x00000000#32) r c
  show FloatOps.matmul (DotDims.transposedRhs M 8192 N) none q w _ (ix2 r c) * broadcastTo ⟨2, ![M, N]⟩ sc h1 (ix2 r c)
    * broadcastTo ⟨2, ![M, N]⟩ ws h2 (ix2 r c) = _
  rw [hm, broadcast_col, broadcastTo_1b_ab_apply]
  rfl

end Cert.Quant

end
-- ==== Proof.KernelValues.lean ====
/- What the kernel's quantising blocks and its product hold at one token, over the extended reals. -/
module

public import proofs.«01_k».proof.Proof.Blocks
public import proofs.«01_k».proof.Proof.Rows

@[expose] public section

set_option maxRecDepth 16384

noncomputable section

namespace Cert.KernelIdeal.Gen

open Idealize.ShloMosaic hiding ix1 ix2
open Idealize.ShloMosaic.ValueIdx Cert.Quant

theorem expStep_apply (t : FVec Ideal S32x128 .f32) (b : IVec S32x128 32) (k : BitVec 32) (i : S32x128.Idx) :
    expStep t b k i = kStep (t i) (b i) k := rfl

theorem expField_apply (t : FVec Ideal S32x128 .f32) (i : S32x128.Idx) : expField t i = kField (t i) := by
  unfold expField kField
  rw [expStep_apply, expStep_apply, expStep_apply, expStep_apply, expStep_apply, expStep_apply, expStep_apply, expStep_apply]
  rw [show (broadcast S32x128 0#32 : IVec S32x128 32) i = 0#32 from rfl]

theorem scaleExp_apply (b : IVec S32x128 32) (i : S32x128.Idx) : scaleExp b i = kExp (b i) := rfl

theorem pow2_apply (e : IVec S32x128 32) (i : S32x128.Idx) : pow2 (F := Ideal) e i = kPow (e i) := rfl

theorem amax_apply (xb : Vec Ideal S32x8192 .bf16) (r : Fin 32) (l : Fin 128) :
    amax xb (ix2 r l) = red fun k => xb (ix2 r k) := by
  unfold amax
  rw [shapeCast_id, shapeCast_id]
  show broadcastTo S32x128 _ broadcasts_S32x1_S32x128 (ix2 r l) * _ = _
  rw [broadcast_col, shapeCast_a_a1_apply]
  exact congrArg (· * Ideal.ofBits .f32 0x3B124925#32) (rowMax _ _ _ _ r)

theorem scaleBlk_apply (xb : Vec Ideal S32x8192 .bf16) (r : Fin 32) (l : Fin 128) :
    scaleBlk xb (ix2 r l) = kScale (red fun k => xb (ix2 r k)) := by
  unfold scaleBlk
  rw [pow2_apply, scaleExp_apply, expField_apply, amax_apply]
  rfl

theorem codeBlk_apply (xb : Vec Ideal S32x8192 .bf16) (r : Fin 32) (k : Fin 8192) :
    codeBlk xb (ix2 r k) = code (xb (ix2 r k)) (kInv (red fun k => xb (ix2 r k))) := by
  unfold codeBlk
  rw [shapeCast_id]
  show min _ (max _ (xb (ix2 r k) * broadcastTo S32x8192 _ broadcasts_S32x1_S32x8192 (ix2 r k))) = _
  rw [broadcast_col]
  rw [extractStridedSlice_apply _ _ _ (ix2 r 0) (ix2 (n0 := 32) (n1 := 128) r 0) (fun a => by
    match a with
    | ⟨0, _⟩ => show r.val = 0 + r.val; omega
    | ⟨1, _⟩ => rfl)]
  rw [pow2_apply]
  show code _ (kPow (IntOp.subi 0#32 (scaleExp (expField (amax xb)) (ix2 r 0)))) = _
  rw [scaleExp_apply, expField_apply, amax_apply]
  rfl

theorem codes_apply (x0 : Vec Ideal S512x8192 .bf16) (p : Fin 512) (k : Fin 8192) :
    codes x0 (ix2 p k) = code (x0 (ix2 p k)) (kInv (red fun k => x0 (ix2 p k))) := by
  have e : ∀ (h : 32 * (p.val / 32) + p.val % 32 < 512), (⟨32 * (p.val / 32) + p.val % 32, h⟩ : Fin 512) = p :=
    fun h => Fin.ext (Nat.div_add_mod p.val 32)
  have e2 : ∀ q, rowsOf x0 ⟨p.val / 32, by have := p.isLt; omega⟩ (ix2 (n0 := 32) (n1 := 8192) ⟨p.val % 32, Nat.mod_lt _ (by decide)⟩ q)
      = x0 (ix2 p q) := fun q => congrArg (fun z => x0 (ix2 z q)) (e _)
  refine (codeBlk_apply (rowsOf x0 ⟨p.val / 32, _⟩) ⟨p.val % 32, _⟩ k).trans ?_
  simp only [e2]

theorem scales_apply (x0 : Vec Ideal S512x8192 .bf16) (p : Fin 512) (l : Fin 128) :
    scales x0 (ix2 p l) = kScale (red fun k => x0 (ix2 p k)) := by
  have e : ∀ (h : 32 * (p.val / 32) + p.val % 32 < 512), (⟨32 * (p.val / 32) + p.val % 32, h⟩ : Fin 512) = p :=
    fun h => Fin.ext (Nat.div_add_mod p.val 32)
  have e2 : ∀ q, rowsOf x0 ⟨p.val / 32, by have := p.isLt; omega⟩ (ix2 (n0 := 32) (n1 := 8192) ⟨p.val % 32, Nat.mod_lt _ (by decide)⟩ q)
      = x0 (ix2 p q) := fun q => congrArg (fun z => x0 (ix2 z q)) (e _)
  refine (scaleBlk_apply (rowsOf x0 ⟨p.val / 32, _⟩) ⟨p.val % 32, _⟩ l).trans ?_
  simp only [e2]

theorem prod_apply (x0 : Vec Ideal S512x8192 .bf16) (x1 : Vec Ideal S512x8192 .fp8e4m3) (x2 : Vec Ideal S1x512 .f32) (p : Fin 512) (c : Fin 512) :
    prod x0 x1 x2 (ix2 p c) = lin (fun k => code (x0 (ix2 p k)) (kInv (red fun k => x0 (ix2 p k)))) (fun k => x1 (ix2 c k))
      (kScale (red fun k => x0 (ix2 p k))) (x2 (ix2 0 c)) := by
  unfold prod k0_pay2
  simp only [shapeCast_id]
  refine (scaled_matmul (codes x0) x1 (col0 (scales x0)) x2 _ _ p c).trans ?_
  rw [show col0 (scales x0) (ix2 p 0) = kScale (red fun k => x0 (ix2 p k)) from scales_apply x0 p 0]
  simp only [codes_apply]

end Cert.KernelIdeal.Gen

end
-- ==== Proof.KernelArrays.lean ====
/- The arrays the kernel's pipeline leaves, as functions of the arrays it is launched on. -/
module

public import proofs.«01_k».proof.Proof.Run
public import proofs.«01_k».proof.Proof.KernelValues
public import Idealize.ShloMosaic.Lib.Pipeline.ValueKit

@[expose] public section

set_option maxRecDepth 16384

noncomputable section

namespace Cert.KernelIdeal.Gen

open Idealize.ShloMosaic hiding ix1 ix2
open Idealize.ShloMosaic.ValueIdx Idealize.ShloMosaic.TcCoe Cert.Quant

/-- The codes of all tokens, -/
def allCodes (X : Vec Ideal S24576x8192 .bf16) : Vec Ideal S24576x8192 .fp8e4m3 := fun i =>
  code (X i) (kInv (red fun k => X (ix2 (n0 := 24576) (n1 := 8192) (i 0) k)))

/-- their scales, in each lane, -/
def allScales (X : Vec Ideal S24576x8192 .bf16) : Vec Ideal S24576x128 .f32 := fun i =>
  kScale (red fun k => X (ix2 (n0 := 24576) (n1 := 8192) (i 0) k))

/-- and their products with the weights. -/
def allProd (X : Vec Ideal S24576x8192 .bf16) (W : Vec Ideal S11264x8192 .fp8e4m3) (ws : Vec Ideal S1x11264 .f32) :
    Vec Ideal S24576x11264 .bf16 := fun i =>
  lin (fun k => code (X (ix2 (n0 := 24576) (n1 := 8192) (i 0) k)) (kInv (red fun k => X (ix2 (n0 := 24576) (n1 := 8192) (i 0) k))))
    (fun k => W (ix2 (n0 := 11264) (n1 := 8192) (i 1) k)) (kScale (red fun k => X (ix2 (n0 := 24576) (n1 := 8192) (i 0) k)))
    (ws (ix2 (n0 := 1) (n1 := 11264) 0 (i 1)))

/-! ## Where each block lies -/

theorem idx0 : ∀ t : Fin cfg0.N, win0_0.index t = ![t.val / 22, 0] := (by decide +kernel : ∀ t : Fin grid0.N, _)
theorem idx1 : ∀ t : Fin cfg0.N, win0_1.index t = ![t.val % 22, 0] := (by decide +kernel : ∀ t : Fin grid0.N, _)
theorem idx2 : ∀ t : Fin cfg0.N, win0_2.index t = ![0, t.val % 22] := (by decide +kernel : ∀ t : Fin grid0.N, _)
theorem idx3 : ∀ t : Fin cfg0.N, win0_3.index t = ![t.val / 22, t.val % 22] := (by decide +kernel : ∀ t : Fin grid0.N, _)
theorem idx4 : ∀ t : Fin cfg0.N, win0_4.index t = ![t.val / 22, 0] := (by decide +kernel : ∀ t : Fin grid0.N, _)
theorem idx5 : ∀ t : Fin cfg0.N, win0_5.index t = ![t.val / 22, 0] := (by decide +kernel : ∀ t : Fin grid0.N, _)

/-- The token at row `p` of the blocks of point `t`, -/
def rowAt (t : Fin cfg0.N) (p : Fin 512) : Fin 24576 :=
  ⟨t.val / 22 * 512 + p.val, by have := p.isLt; have : t.val < 1056 := t.isLt; omega⟩
/-- and the output at their column `q`. -/
def colAt (t : Fin cfg0.N) (q : Fin 512) : Fin 11264 :=
  ⟨t.val % 22 * 512 + q.val, by have := q.isLt; have := Nat.mod_lt t.val (show 0 < 22 by decide); omega⟩

variable (m : (ℓ : Loc nD τ sig) → Buf (Elt Ideal) ℓ) (c : Dev nD)

theorem iblk0_apply (t : Fin cfg0.N) (p : Fin 512) (k : Fin 8192) :
    iblk m c 0 t (ix2 p k) = V m c main_v0 (ix2 (rowAt t p) k) := by
  blk_simp [iblk]
  refine congrArg (V m c main_v0) ?_
  blk_ext [idx0 t, rowAt]

theorem iblk1_apply (t : Fin cfg0.N) (q : Fin 512) (k : Fin 8192) :
    iblk m c 1 t (ix2 q k) = V m c main_arg1 (ix2 (colAt t q) k) := by
  blk_simp [iblk]
  refine congrArg (V m c main_arg1) ?_
  blk_ext [idx1 t, colAt]

theorem iblk2_apply (t : Fin cfg0.N) (q : Fin 512) :
    iblk m c 2 t (ix2 0 q) = V m c main_v1 (ix2 0 (colAt t q)) := by
  blk_simp [iblk]
  refine congrArg (V m c main_v1) ?_
  blk_ext [idx2 t, colAt]

theorem rows_eq (t : Fin cfg0.N) (p : Fin 512) :
    (fun k => (iblk m c 0 t : Vec Ideal S512x8192 .bf16) (ix2 p k)) = fun k => (V m c main_v0 : Vec Ideal S24576x8192 .bf16) (ix2 (rowAt t p) k) :=
  funext fun k => iblk0_apply m c t p k

theorem codes_at (t : Fin cfg0.N) (p : Fin 512) (k : Fin 8192) :
    codes (iblk m c 0 t) (ix2 p k) = allCodes (V m c main_v0) (ix2 (rowAt t p) k) := by
  refine (codes_apply (iblk m c 0 t) p k).trans ?_
  rw [rows_eq m c t p, iblk0_apply m c t p k]
  rfl

theorem scales_at (t : Fin cfg0.N) (p : Fin 512) (l : Fin 128) :
    scales (iblk m c 0 t) (ix2 p l) = allScales (V m c main_v0) (ix2 (rowAt t p) l) := by
  refine (scales_apply (iblk m c 0 t) p l).trans ?_
  rw [rows_eq m c t p]
  rfl

theorem prod_at (t : Fin cfg0.N) (p q : Fin 512) :
    prod (iblk m c 0 t) (iblk m c 1 t) (iblk m c 2 t) (ix2 p q)
      = allProd (V m c main_v0) (V m c main_arg1) (V m c main_v1) (ix2 (rowAt t p) (colAt t q)) := by
  refine (prod_apply (iblk m c 0 t) (iblk m c 1 t) (iblk m c 2 t) p q).trans ?_
  rw [rows_eq m c t p, iblk2_apply m c t q]
  simp only [iblk0_apply m c t p, iblk1_apply m c t q]
  rfl

/-! ## The arrays after the run -/

theorem final3 : (dats m 0 c).arrAt 3 cfg0.N = allProd (V m c main_v0) (V m c main_arg1) (V m c main_v1) := by
  refine (dats m 0 c).arrAt_eq_of_covers 3 _ (by decide +kernel) fun t hf y => ?_
  blk_simp
  rw [after0_3]
  refine (congrArg _ (ValueIdx.eq_ix2 (n0 := 512) (n1 := 512) y)).trans ((prod_at m c t (y 0) (y 1)).trans (congrArg _ ?_))
  blk_ext [idx3 t, rowAt, colAt]

theorem final4 : (dats m 0 c).arrAt 4 cfg0.N = allCodes (V m c main_v0) := by
  refine (dats m 0 c).arrAt_eq_of_covers 4 _ (by decide +kernel) fun t hf y => ?_
  blk_simp
  rw [after0_4]
  refine (congrArg _ (ValueIdx.eq_ix2 (n0 := 512) (n1 := 8192) y)).trans ((codes_at m c t (y 0) (y 1)).trans (congrArg _ ?_))
  blk_ext [idx4 t, rowAt]

theorem final5 : (dats m 0 c).arrAt 5 cfg0.N = allScales (V m c main_v0) := by
  refine (dats m 0 c).arrAt_eq_of_covers 5 _ (by decide +kernel) fun t hf y => ?_
  blk_simp
  rw [after0_5]
  refine (congrArg _ (ValueIdx.eq_ix2 (n0 := 512) (n1 := 128) y)).trans ((scales_at m c t (y 0) (y 1)).trans (congrArg _ ?_))
  blk_ext [idx5 t, rowAt]

end Cert.KernelIdeal.Gen

end
-- ==== Proof.KernelResults.lean ====
/- The kernel's results, read through the host operations around its pipeline. -/
module

public import proofs.«01_k».proof.Proof.KernelArrays

@[expose] public section

set_option maxRecDepth 16384

noncomputable section

namespace Cert.KernelIdeal.Gen

open Idealize.ShloMosaic hiding ix1 ix2
open Idealize.ShloMosaic.ValueIdx Idealize.ShloMosaic.TcCoe Cert.Quant
open Idealize.SL Idealize.SL.Sem

variable (m : (ℓ : Loc nD τ sig) → Buf (Elt Ideal) ℓ) (ρ : Dev nD → PrngReg)

/-! ## What the pipeline is launched on -/

theorem V_main_v0 (c : Dev nD) : V m c main_v0
    = shapeCast S24576x8192 (m ((c : Thread nD τ).loc main_arg0) : Vec Ideal S8x3072x8192 .bf16) shapeCasts_S8x3072x8192_S24576x8192 := by
  show StableHlo.after [_, _] _ (Proc.devRef .tc main_v0) = _
  simp only [StableHlo.after_cons, StableHlo.after_nil]
  rw [StableHlo.reshape_result_ne, StableHlo.reshape_result]
  · rfl
  · decide

theorem V_main_v1 (c : Dev nD) : V m c main_v1
    = shapeCast S1x11264 (m ((c : Thread nD τ).loc main_arg2) : Vec Ideal S11264 .f32) shapeCasts_S11264_S1x11264 := by
  show StableHlo.after [_, _] _ (Proc.devRef .tc main_v1) = _
  simp only [StableHlo.after_cons, StableHlo.after_nil]
  rw [StableHlo.reshape_result, StableHlo.reshape_result_ne]
  · rfl
  · decide

/-! ## The results -/

/-- The buffers at the pipeline's exit. -/
abbrev exit (c : Dev nD) : Valuation τ sig (Elt Ideal) :=
  Pipeline.withArrays spec0 c (V0 m c) fun w => (dats m 0 c).arrAt w cfg0.N

theorem exit_arr (c : Dev nD) (w : Fin cfg0.W) : exit m c (Proc.devRef .tc (Pipeline.arrRef spec0 w)) = (dats m 0 c).arrAt w cfg0.N :=
  Pipeline.withArrays_arr spec0 (by decide) c _ _ w

theorem W_main_v3 (c : Dev nD) : Pipeline.afterTail₀ cfgs (dats m) 0 (V0 m) [hostOps1] c main_v3
    = shapeCast S8x3072x11264 (allProd (V m c main_v0) (V m c main_arg1) (V m c main_v1)) shapeCasts_S24576x11264_S8x3072x11264 := by
  show StableHlo.after [_, _, _, _] (exit m c) (Proc.devRef .tc main_v3) = _
  after_results
  rw [← final3 m c, ← exit_arr m c 3]
  rfl

theorem W_main_v4 (c : Dev nD) : Pipeline.afterTail₀ cfgs (dats m) 0 (V0 m) [hostOps1] c main_v4
    = shapeCast S8x3072x8192 (allCodes (V m c main_v0)) shapeCasts_S24576x8192_S8x3072x8192 := by
  show StableHlo.after [_, _, _, _] (exit m c) (Proc.devRef .tc main_v4) = _
  after_results
  rw [← final4 m c, ← exit_arr m c 4]
  rfl

theorem W_main_v6 (c : Dev nD) : Pipeline.afterTail₀ cfgs (dats m) 0 (V0 m) [hostOps1] c main_v6
    = shapeCast S8x3072x1 (extractStridedSlice S24576x1 ![0, 0] (allScales (V m c main_v0)) slices_S24576x128_S24576x1_0_0)
      shapeCasts_S24576x1_S8x3072x1 := by
  show StableHlo.after [_, _, _, _] (exit m c) (Proc.devRef .tc main_v6) = _
  after_results
  rw [← final5 m c, ← exit_arr m c 5]
  rfl

/-- THE KERNEL'S RUN: its three results as functions of its arguments, which end unchanged. -/
theorem run_values : θ_run defs (onTc (τ := τ) (main (F := Ideal))) ⟨m, fun _ => 0, ρ⟩ (fun r => ∀ c : Dev nD,
      r.2.mem ((c.tc : Thread nD τ).loc main_v3)
        = shapeCast S8x3072x11264 (allProd (V m c main_v0) (V m c main_arg1) (V m c main_v1)) shapeCasts_S24576x11264_S8x3072x11264
      ∧ r.2.mem ((c.tc : Thread nD τ).loc main_v4)
        = shapeCast S8x3072x8192 (allCodes (V m c main_v0)) shapeCasts_S24576x8192_S8x3072x8192
      ∧ r.2.mem ((c.tc : Thread nD τ).loc main_v6)
        = shapeCast S8x3072x1 (extractStridedSlice S24576x1 ![0, 0] (allScales (V m c main_v0)) slices_S24576x128_S24576x1_0_0)
          shapeCasts_S24576x1_S8x3072x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (W_main_v3 m c),
      ((h c).2 main_v4 (Pipeline.mem_restRefs_of main_v4 (by decide) (by decide))).trans (W_main_v4 m c),
      ((h c).2 main_v6 (Pipeline.mem_restRefs_of main_v6 (by decide) (by decide))).trans (W_main_v6 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.KernelIdeal.Gen

end
-- ==== Proof.ReferenceValues.lean ====
/- What the reference's results hold at one token, over the extended reals. -/
module

public import proofs.«01_k».proof.Proof.Gen.ReferenceIdeal.Skeleton
public import proofs.«01_k».proof.Proof.Rows

@[expose] public section

set_option maxRecDepth 16384

noncomputable section

namespace Cert.ReferenceIdeal.Gen

open Idealize.ShloMosaic hiding ix1 ix2
open Idealize.ShloMosaic.ValueIdx Cert.Quant

section Elementwise

variable {s : Shape}

theorem exponent_apply (t : FVec Ideal s .f32) (i : s.Idx) :
    select (ori (cmpf .olt t (broadcast s (Scalar.ofBits .f32 0x00800000#32))) (cmpf .oeq t (broadcast s (Scalar.ofBits .f32 0x7F800000#32))))
      (broadcast s (Scalar.ofBits (F := Ideal) .f32 0x00000000#32))
      (addf (floor (divf (log t) (log (broadcast s (Scalar.ofBits .f32 0x40000000#32))))) (broadcast s (Scalar.ofBits .f32 0x3F800000#32))) i
      = rExp (t i) := rfl

theorem reduced_apply (t : FVec Ideal s .f32) (i : s.Idx) :
    mulf t (broadcast s (Scalar.ofBits .f32 0x3B124925#32)) i = t i * Ideal.ofBits .f32 0x3B124925#32 := rfl

theorem exp2_apply (t : FVec Ideal s .f32) (i : s.Idx) : exp2 t i = Ideal.exp2 (t i) := rfl

theorem negated_apply (t : FVec Ideal s .f32) (i : s.Idx) :
    subf (broadcast s (Scalar.ofBits .f32 0x00000000#32)) t i = Ideal.ofBits .f32 0x00000000#32 - t i := rfl

theorem clipped_apply (x : FVec Ideal s .bf16) (y : FVec Ideal s .f32) (h : FTy.bits .bf16 < FTy.bits .f32) (h' : FTy.bits .fp8e4m3 < FTy.bits .f32) (i : s.Idx) :
    truncf .fp8e4m3 (minimumf (broadcast s (Scalar.ofBits .f32 0x43E00000#32))
      (maximumf (broadcast s (Scalar.ofBits .f32 0xC3E00000#32)) (mulf (extf .f32 x h) y))) h' i = code (x i) (y i) := rfl

theorem magnitude_apply (x : FVec Ideal s .bf16) (h : FTy.bits .bf16 < FTy.bits .f32) (i : s.Idx) :
    absf (extf .f32 x h) i = max (x i) (-(x i)) := rfl

end Elementwise

theorem exp_apply (X : Vec Ideal S24576x8192 .bf16) (r : Fin 24576) : k0_pay2 X (ix2 r 0) = rExp (red fun k => X (ix2 r k)) := by
  unfold k0_pay2 k0_pay1
  refine (exponent_apply _ _).trans (congrArg rExp ((reduced_apply _ _).trans ?_))
  unfold red mag
  rw [shapeCast_id]
  refine congrArg (· * Ideal.ofBits .f32 0x3B124925#32) ((shapeCast_a_a1_apply _ _ r 0).trans ((rowMax _ _ _ _ r).trans ?_))
  simp only [magnitude_apply]

theorem scale_apply (X : Vec Ideal S24576x8192 .bf16) (r : Fin 24576) : k0_pay3 X (ix2 r 0) = rScale (red fun k => X (ix2 r k)) := by
  unfold k0_pay3 rScale
  rw [← exp_apply]
  exact exp2_apply _ _

theorem code_apply (X : Vec Ideal S24576x8192 .bf16) (r : Fin 24576) (k : Fin 8192) :
    k0_pay4 X (ix2 r k) = code (X (ix2 r k)) (rInv (red fun k => X (ix2 r k))) := by
  unfold rInv
  rw [← exp_apply]
  unfold k0_pay4 k0_pay1
  refine (clipped_apply _ _ _ _ _).trans ?_
  rw [shapeCast_id]
  refine congrArg (code _) ((broadcast_col _ _ r k).trans ?_)
  exact (exp2_apply _ _).trans (congrArg Ideal.exp2 (negated_apply _ _))

theorem prod_apply (X : Vec Ideal S24576x8192 .bf16) (W : Vec Ideal S11264x8192 .fp8e4m3) (ws : Vec Ideal S1x11264 .f32) (r : Fin 24576) (c : Fin 11264) :
    k0_pay5 X W ws (ix2 r c) = lin (fun k => code (X (ix2 r k)) (rInv (red fun k => X (ix2 r k)))) (fun k => W (ix2 c k))
      (rScale (red fun k => X (ix2 r k))) (ws (ix2 0 c)) := by
  unfold k0_pay5
  simp only [shapeCast_id]
  refine (scaled_matmul (k0_pay4 X) W (k0_pay3 X) ws _ _ r c).trans ?_
  rw [scale_apply]
  simp only [code_apply]

end Cert.ReferenceIdeal.Gen

end
-- ==== Proof.ReferenceResults.lean ====
/- The reference's results: the arrays its one grid point leaves, read through the host operations around it. -/
module

public import proofs.«01_k».proof.Proof.Gen.ReferenceIdeal.Frame
public import proofs.«01_k».proof.Proof.ReferenceValues
public import Idealize.ShloMosaic.Lib.Pipeline.ValueKit

@[expose] public section

set_option maxRecDepth 16384

noncomputable section

namespace Cert.ReferenceIdeal.Gen

open Idealize.ShloMosaic hiding ix1 ix2
open Idealize.ShloMosaic.ValueIdx Idealize.ShloMosaic.TcCoe Cert.Quant
open Idealize.SL Idealize.SL.Sem

variable (m : (ℓ : Loc nD τ sig) → Buf (Elt Ideal) ℓ) (ρ : Dev nD → PrngReg)

/-! ## The arrays after the run -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

theorem iblk0_eq (c : Dev nD) (t : Fin cfg0.N) : iblk m c 0 t = (V m c main_v0 : Vec Ideal S24576x8192 .bf16) := by
  blk_ext! [iblk, idx0 t]

theorem iblk1_eq (c : Dev nD) (t : Fin cfg0.N) : iblk m c 1 t = (V m c main_arg1 : Vec Ideal S11264x8192 .fp8e4m3) := by
  blk_ext! [iblk, idx1 t]

theorem iblk2_eq (c : Dev nD) (t : Fin cfg0.N) : iblk m c 2 t = (V m c main_v1 : Vec Ideal S1x11264 .f32) := by
  blk_ext! [iblk, idx2 t]

theorem final3 (c : Dev nD) : (dats m 0 c).arrAt 3 cfg0.N = k0_pay5 (V m c main_v0) (V m c main_arg1) (V m c main_v1) := by
  refine (dats m 0 c).arrAt_eq_of_covers 3 _ (by decide +kernel) fun t hf y => ?_
  blk_simp
  rw [after0_3]
  unfold out0_3
  frame_out
  rw [iblk0_eq, iblk1_eq, iblk2_eq]
  refine congrArg (k0_pay5 (V m c main_v0) (V m c main_arg1) (V m c main_v1)) ?_
  blk_ext [idx3 t]

theorem final4 (c : Dev nD) : (dats m 0 c).arrAt 4 cfg0.N = k0_pay4 (V m c main_v0) := by
  refine (dats m 0 c).arrAt_eq_of_covers 4 _ (by decide +kernel) fun t hf y => ?_
  blk_simp
  rw [after0_4]
  unfold out0_4
  frame_out
  rw [iblk0_eq]
  refine congrArg (k0_pay4 (V m c main_v0)) ?_
  blk_ext [idx4 t]

theorem final5 (c : Dev nD) : (dats m 0 c).arrAt 5 cfg0.N = k0_pay3 (V m c main_v0) := by
  refine (dats m 0 c).arrAt_eq_of_covers 5 _ (by decide +kernel) fun t hf y => ?_
  blk_simp
  rw [after0_5]
  unfold out0_5
  frame_out
  rw [iblk0_eq]
  refine congrArg (k0_pay3 (V m c main_v0)) ?_
  blk_ext [idx5 t]

/-! ## What the pipeline is launched on -/

theorem V_main_v0 (c : Dev nD) : V m c main_v0
    = shapeCast S24576x8192 (m ((c : Thread nD τ).loc main_arg0) : Vec Ideal S8x3072x8192 .bf16) shapeCasts_S8x3072x8192_S24576x8192 := by
  show StableHlo.after [_, _] _ (Proc.devRef .tc main_v0) = _
  simp only [StableHlo.after_cons, StableHlo.after_nil]
  rw [StableHlo.reshape_result_ne, StableHlo.reshape_result]
  · rfl
  · decide

theorem V_main_v1 (c : Dev nD) : V m c main_v1
    = shapeCast S1x11264 (m ((c : Thread nD τ).loc main_arg2) : Vec Ideal S11264 .f32) shapeCasts_S11264_S1x11264 := by
  show StableHlo.after [_, _] _ (Proc.devRef .tc main_v1) = _
  simp only [StableHlo.after_cons, StableHlo.after_nil]
  rw [StableHlo.reshape_result, StableHlo.reshape_result_ne]
  · rfl
  · decide

/-! ## The results -/

/-- The buffers at the pipeline's exit. -/
abbrev exit (c : Dev nD) : Valuation τ sig (Elt Ideal) :=
  Pipeline.withArrays spec0 c (V0 m c) fun w => (dats m 0 c).arrAt w cfg0.N

theorem exit_arr (c : Dev nD) (w : Fin cfg0.W) : exit m c (Proc.devRef .tc (Pipeline.arrRef spec0 w)) = (dats m 0 c).arrAt w cfg0.N :=
  Pipeline.withArrays_arr spec0 (by decide) c _ _ w

theorem W_main_v3 (c : Dev nD) : Pipeline.afterTail₀ cfgs (dats m) 0 (V0 m) [hostOps1] c main_v3
    = shapeCast S8x3072x11264 (k0_pay5 (V m c main_v0) (V m c main_arg1) (V m c main_v1)) shapeCasts_S24576x11264_S8x3072x11264 := by
  show StableHlo.after [_, _, _] (exit m c) (Proc.devRef .tc main_v3) = _
  after_results
  rw [← final3 m c, ← exit_arr m c 3]
  rfl

theorem W_main_v4 (c : Dev nD) : Pipeline.afterTail₀ cfgs (dats m) 0 (V0 m) [hostOps1] c main_v4
    = shapeCast S8x3072x8192 (k0_pay4 (V m c main_v0)) shapeCasts_S24576x8192_S8x3072x8192 := by
  show StableHlo.after [_, _, _] (exit m c) (Proc.devRef .tc main_v4) = _
  after_results
  rw [← final4 m c, ← exit_arr m c 4]
  rfl

theorem W_main_v5 (c : Dev nD) : Pipeline.afterTail₀ cfgs (dats m) 0 (V0 m) [hostOps1] c main_v5
    = shapeCast S8x3072x1 (k0_pay3 (V m c main_v0))
      shapeCasts_S24576x1_S8x3072x1 := by
  show StableHlo.after [_, _, _] (exit m c) (Proc.devRef .tc main_v5) = _
  after_results
  rw [← final5 m c, ← exit_arr m c 5]
  rfl

/-- THE REFERENCE'S RUN: its three results as functions of its arguments, which end unchanged. -/
theorem run_values : θ_run defs (onTc (τ := τ) (main (F := Ideal))) ⟨m, fun _ => 0, ρ⟩ (fun r => ∀ c : Dev nD,
      r.2.mem ((c.tc : Thread nD τ).loc main_v3)
        = shapeCast S8x3072x11264 (k0_pay5 (V m c main_v0) (V m c main_arg1) (V m c main_v1)) shapeCasts_S24576x11264_S8x3072x11264
      ∧ r.2.mem ((c.tc : Thread nD τ).loc main_v4)
        = shapeCast S8x3072x8192 (k0_pay4 (V m c main_v0)) shapeCasts_S24576x8192_S8x3072x8192
      ∧ r.2.mem ((c.tc : Thread nD τ).loc main_v5)
        = shapeCast S8x3072x1 (k0_pay3 (V m c main_v0))
          shapeCasts_S24576x1_S8x3072x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (W_main_v3 m c),
      ((h c).2 main_v4 (Pipeline.mem_restRefs_of main_v4 (by decide) (by decide))).trans (W_main_v4 m c),
      ((h c).2 main_v5 (Pipeline.mem_restRefs_of main_v5 (by decide) (by decide))).trans (W_main_v5 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.ReferenceIdeal.Gen

end
-- ==== Proof.Bound.lean ====
/- The precondition at a token: its reduced magnitude is below `2 ^ 126` or infinite. -/
module

public import proofs.«01_k».proof.Proof.Rows
public import proofs.«01_k».proof.Proof.Gen.Pre_bf16_values
public import Idealize.ShloMosaic.Lib.ReduceAll

@[expose] public section

set_option maxRecDepth 16384

noncomputable section

namespace Cert.Quant

open Idealize.ShloMosaic hiding ix0 ix1 ix2
open Idealize.ShloMosaic.ValueIdx

/-- `x` is at most bfloat16's greatest finite value in magnitude, or infinite. -/
def Bounded (x : EReal) : Prop := max x (-x) ≤ Ideal.ofBits .bf16 0x7F7F#16 ∨ max x (-x) = ⊤

theorem inf_bf16 : Ideal.ofBits .bf16 0x7F80#16 = ⊤ := by
  simp [Ideal.ofBits, Ideal.ieee]

theorem bound_bf16 : Ideal.ofBits .bf16 0x7F7F#16 = ((255 * 2 ^ 120 : ℝ) : EReal) := by
  simp [Ideal.ofBits, Ideal.ieee, -EReal.coe_mul]

theorem neutral_f32 : Ideal.ofBits .f32 0xFF800000#32 = ⊥ := by
  simp [Ideal.ofBits, Ideal.ieee]

theorem over_f32 : Ideal.ofBits .f32 0x3B124925#32 = ((9586981 / 2 ^ 32 : ℝ) : EReal) := by
  simp [Ideal.ofBits, Ideal.ieee, -EReal.coe_mul]; norm_num

/-- The precondition, entry by entry. -/
theorem bounded_of_pre (x : FVec Ideal Cert.Pre_bf16_values.S8x3072x8192 .bf16) (w : FVec Ideal Cert.Pre_bf16_values.S11264x8192 .fp8e4m3)
    (ws : FVec Ideal Cert.Pre_bf16_values.S11264 .f32) (h : Cert.Pre_bf16_values.fn (F := Ideal) x w ws = fun _ => 1#1)
    (i : Cert.Pre_bf16_values.S8x3072x8192.Idx) : Bounded (x i) := by
  haveI : Subsingleton Cert.Pre_bf16_values.S_.Idx := ⟨fun a b => funext fun d => d.elim0⟩
  have e := Host.reduce_andi_all _ _ _ _ ix0 (congrFun h ix0) i
  have e' : BitVec.ofBool (decide (max (x i) (-(x i)) ≤ Ideal.ofBits .bf16 0x7F7F#16))
      ||| BitVec.ofBool (decide (max (x i) (-(x i)) = Ideal.ofBits .bf16 0x7F80#16)) = 1#1 := e
  rw [inf_bf16] at e'
  unfold Bounded
  by_contra hc
  rw [not_or] at hc
  rw [decide_eq_false hc.1, decide_eq_false hc.2] at e'
  exact absurd e' (by decide)

theorem mag_bounded (f : Fin 8192 → EReal) (h : ∀ k, Bounded (f k)) : mag f ≤ Ideal.ofBits .bf16 0x7F7F#16 ∨ mag f = ⊤ := by
  unfold mag
  generalize (Finset.univ : Finset (Fin 8192)) = s
  induction s using Finset.induction_on with
  | empty => left; rw [Finset.fold_empty, neutral_f32]; exact bot_le
  | insert a s ha ih =>
    rw [Finset.fold_insert ha]
    rcases h a with h1 | h1
    · rcases ih with h2 | h2
      · exact .inl (max_le h1 h2)
      · right; rw [h2, max_top_right]
    · right; rw [h1, max_top_left]

theorem red_lt (f : Fin 8192 → EReal) (h : ∀ k, Bounded (f k)) : red f < ff (BitVec.ofNat 32 253) ∨ red f = ⊤ := by
  unfold red
  rw [over_f32]
  rcases mag_bounded f h with hm | hm
  · left
    rw [bound_bf16] at hm
    refine lt_of_le_of_lt (mul_le_mul_of_nonneg_right hm (EReal.coe_nonneg.mpr (by positivity))) ?_
    rw [ff_pow 253 (by omega) (by omega), ← EReal.coe_mul, EReal.coe_lt_coe_iff]
    norm_num
  · right
    rw [hm, EReal.top_mul_coe_of_pos (by positivity)]

/-- Under the precondition a token's two factors are the reference's. -/
theorem row_factors (f : Fin 8192 → EReal) (h : ∀ k, Bounded (f k)) : kScale (red f) = rScale (red f) ∧ kInv (red f) = rInv (red f) :=
  factors_eq _ (red_lt f h)

end Cert.Quant

end
-- ==== Proof.Agree.lean ====
/- The kernel's results and the reference's are equal under the precondition. -/
module

public import proofs.«01_k».proof.Defs
public import proofs.«01_k».proof.Proof.KernelResults
public import proofs.«01_k».proof.Proof.ReferenceResults
public import proofs.«01_k».proof.Proof.Bound

@[expose] public section

set_option maxRecDepth 16384

noncomputable section

namespace Cert.Agree

open Idealize.ShloMosaic hiding ix0 ix1 ix2
open Idealize.ShloMosaic.ValueIdx Idealize.ShloMosaic.TcCoe Cert.Quant
open Idealize.SL Idealize.SL.Sem

section Arrays

variable (X : Vec Ideal Cert.KernelIdeal.S24576x8192 .bf16) (hX : ∀ i, Bounded (X i))
include hX

theorem codes_eq : Cert.KernelIdeal.Gen.allCodes X = Cert.ReferenceIdeal.Gen.k0_pay4 X := by
  funext i
  rw [ValueIdx.eq_ix2 (n0 := 24576) (n1 := 8192) i]
  refine Eq.trans ?_ (Cert.ReferenceIdeal.Gen.code_apply X (i 0) (i 1)).symm
  exact congrArg (code _) (row_factors _ fun k => hX _).2

theorem scales_eq : extractStridedSlice Cert.KernelIdeal.S24576x1 ![0, 0] (Cert.KernelIdeal.Gen.allScales X)
    Cert.KernelIdeal.Gen.slices_S24576x128_S24576x1_0_0 = Cert.ReferenceIdeal.Gen.k0_pay3 X := by
  funext i
  rw [ValueIdx.eq_ix2 (n0 := 24576) (n1 := 1) i, show i 1 = (0 : Fin 1) from Subsingleton.elim (α := Fin 1) _ _]
  refine Eq.trans ?_ (Cert.ReferenceIdeal.Gen.scale_apply X (i 0)).symm
  refine (extractStridedSlice_apply (t := Cert.KernelIdeal.S24576x1) _ _ _ (ix2 (n0 := 24576) (n1 := 1) (i 0) 0) (ix2 (n0 := 24576) (n1 := 128) (i 0) 0) (fun a => by
    match a with
    | ⟨0, _⟩ => show (i 0).val = 0 + (i 0).val; omega
    | ⟨1, _⟩ => rfl)).trans ?_
  exact (row_factors _ fun k => hX _).1

theorem prod_eq (W : Vec Ideal Cert.KernelIdeal.S11264x8192 .fp8e4m3) (ws : Vec Ideal Cert.KernelIdeal.S1x11264 .f32) :
    Cert.KernelIdeal.Gen.allProd X W ws = Cert.ReferenceIdeal.Gen.k0_pay5 X W ws := by
  funext i
  rw [ValueIdx.eq_ix2 (n0 := 24576) (n1 := 11264) i]
  refine Eq.trans ?_ (Cert.ReferenceIdeal.Gen.prod_apply X W ws (i 0) (i 1)).symm
  obtain ⟨h1, h2⟩ := row_factors (fun k => X (ix2 (n0 := 24576) (n1 := 8192) (i 0) k)) fun k => hX _
  rw [← h1, ← h2]
  rfl

end Arrays

/-- THE VALUE CLAIM: every result of the kernel is the reference's, element by element. -/
theorem algebraic : Cert.algebraic_KernelIdeal_ReferenceIdeal_pre_bf16_values := by
  intro m g m' g' hpre hagree
  have hX : ∀ (c : Dev Cert.KernelIdeal.nD) i, Bounded ((Cert.KernelIdeal.Gen.V m c Cert.KernelIdeal.main_v0 : Vec Ideal Cert.KernelIdeal.S24576x8192 .bf16) i) := by
    intro c i
    rw [Cert.KernelIdeal.Gen.V_main_v0]
    exact bounded_of_pre _ _ _ (hpre c) _
  have e0 : ∀ c : Dev Cert.KernelIdeal.nD, (Cert.ReferenceIdeal.Gen.V m' c Cert.ReferenceIdeal.main_v0 : Vec Ideal Cert.KernelIdeal.S24576x8192 .bf16)
      = Cert.KernelIdeal.Gen.V m c Cert.KernelIdeal.main_v0 := by
    intro c
    rw [Cert.KernelIdeal.Gen.V_main_v0]
    refine (Cert.ReferenceIdeal.Gen.V_main_v0 m' c).trans ?_
    exact congrArg (fun x : Vec Ideal Cert.KernelIdeal.S8x3072x8192 .bf16 =>
      shapeCast Cert.KernelIdeal.S24576x8192 x Cert.KernelIdeal.Gen.shapeCasts_S8x3072x8192_S24576x8192) (hagree c).1
  have e1 : ∀ c : Dev Cert.KernelIdeal.nD, (Cert.ReferenceIdeal.Gen.V m' c Cert.ReferenceIdeal.main_arg1 : Vec Ideal Cert.KernelIdeal.S11264x8192 .fp8e4m3)
      = Cert.KernelIdeal.Gen.V m c Cert.KernelIdeal.main_arg1 := by
    intro c
    rw [Cert.KernelIdeal.Gen.V_main_arg1]
    exact (Cert.ReferenceIdeal.Gen.V_main_arg1 m' c).trans (hagree c).2.1
  have e2 : ∀ c : Dev Cert.KernelIdeal.nD, (Cert.ReferenceIdeal.Gen.V m' c Cert.ReferenceIdeal.main_v1 : Vec Ideal Cert.KernelIdeal.S1x11264 .f32)
      = Cert.KernelIdeal.Gen.V m c Cert.KernelIdeal.main_v1 := by
    intro c
    rw [Cert.KernelIdeal.Gen.V_main_v1]
    refine (Cert.ReferenceIdeal.Gen.V_main_v1 m' c).trans ?_
    exact congrArg (fun x : Vec Ideal Cert.KernelIdeal.S11264 .f32 =>
      shapeCast Cert.KernelIdeal.S1x11264 x Cert.KernelIdeal.Gen.shapeCasts_S11264_S1x11264) (hagree c).2.2
  refine ⟨_, _, _, Cert.KernelIdeal.Gen.run_values m g, ?_⟩
  refine (θ_run _ _ _).mono (fun r h c => ?_) (Cert.ReferenceIdeal.Gen.run_values m' g')
  obtain ⟨h3, h4, h5, ha⟩ := h c
  refine ⟨h3.trans ?_, h4.trans ?_, h5.trans ?_, ha⟩
  · rw [e0, e1, e2, ← prod_eq _ (hX c)]
  · rw [e0, ← codes_eq _ (hX c)]
  · rw [e0, ← scales_eq _ (hX c)]

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_bf16_values
public import proofs.«01_k».proof.Proof.Run
public import proofs.«01_k».proof.Proof.Words
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_bf16_values.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    Cert.Agree.algebraic⟩

end Cert.Proof

end
